-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![1024]⟩ ⟨1, ![8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![2048, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024 : Shape := ⟨1, ![1024]⟩
abbrev S8x16x128 : Shape := ⟨3, ![8, 16, 128]⟩
abbrev S2x8 : Shape := ⟨2, ![2, 8]⟩
abbrev S_ : Shape := ⟨0, ![]⟩
abbrev S128x128 : Shape := ⟨2, ![128, 128]⟩
abbrev S1x1024 : Shape := ⟨2, ![1, 1024]⟩
abbrev S1024x1024 : Shape := ⟨2, ![1024, 1024]⟩
abbrev S8x128 : Shape := ⟨2, ![8, 128]⟩
abbrev S1x8x128 : Shape := ⟨3, ![1, 8, 128]⟩
abbrev S1x1 : Shape := ⟨2, ![1, 1]⟩
abbrev S8x8x128 : Shape := ⟨3, ![8, 8, 128]⟩
abbrev S128x8 : Shape := ⟨2, ![128, 8]⟩
abbrev S128x1 : Shape := ⟨2, ![128, 1]⟩
abbrev S128 : Shape := ⟨1, ![128]⟩
abbrev S512x1 : Shape := ⟨2, ![512, 1]⟩
abbrev S512x1024 : Shape := ⟨2, ![512, 1024]⟩

abbrev nBuf : Space → Nat
  | .hbm => 3
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .bf16⟩
  | .local _ .vmem, ⟨0, _⟩ => ⟨S2048x1024, .f32⟩
  | .local _ .vmem, ⟨1, _⟩ => ⟨S1024, .f32⟩
  | .local _ .vmem, ⟨2, _⟩ => ⟨S2048x1024, .bf16⟩
  | .local _ .vmem, ⟨3, _⟩ => ⟨S8x16x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v45 : Index := Scalar.indexCast v2
  let c0_30 : Index := 0#32
  let c0_31 : Index := 0#32
  ![v45.toNat, 0, 0]
def k0_off2 (d0 : Dev nD) : Fin 2 → Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_40 : BitVec 32 := 0#32
  let c0_i32_41 : BitVec 32 := 0#32
  ![v2.toNat, 0, 0]
def k0_dev8 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v49 : BitVec 32 := Scalar.addi v2 c1_i32_33
  let c8_i32_34 : BitVec 32 := 8#32
  let v50 : BitVec 32 := Scalar.remsi v49 c8_i32_34
  let c1_i32_38 : BitVec 32 := 1#32
  let v51 : BitVec 32 := Scalar.muli v50 c1_i32_38
  let v52 : BitVec 32 := Scalar.addi c0_i32_39 v51
  v52.toNat
def k0_dev9 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_44 : BitVec 32 := 2#32
  let v61 : BitVec 32 := Scalar.addi v2 c2_i32_44
  let c8_i32_45 : BitVec 32 := 8#32
  let v62 : BitVec 32 := Scalar.remsi v61 c8_i32_45
  let c1_i32_49 : BitVec 32 := 1#32
  let v63 : BitVec 32 := Scalar.muli v62 c1_i32_49
  let v64 : BitVec 32 := Scalar.addi c0_i32_50 v63
  v64.toNat
def k0_dev10 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_55 : BitVec 32 := 3#32
  let v73 : BitVec 32 := Scalar.addi v2 c3_i32_55
  let c8_i32_56 : BitVec 32 := 8#32
  let v74 : BitVec 32 := Scalar.remsi v73 c8_i32_56
  let c1_i32_60 : BitVec 32 := 1#32
  let v75 : BitVec 32 := Scalar.muli v74 c1_i32_60
  let v76 : BitVec 32 := Scalar.addi c0_i32_61 v75
  v76.toNat
def k0_dev11 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_66 : BitVec 32 := 4#32
  let v85 : BitVec 32 := Scalar.addi v2 c4_i32_66
  let c8_i32_67 : BitVec 32 := 8#32
  let v86 : BitVec 32 := Scalar.remsi v85 c8_i32_67
  let c1_i32_71 : BitVec 32 := 1#32
  let v87 : BitVec 32 := Scalar.muli v86 c1_i32_71
  let v88 : BitVec 32 := Scalar.addi c0_i32_72 v87
  v88.toNat
def k0_dev12 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_77 : BitVec 32 := 5#32
  let v97 : BitVec 32 := Scalar.addi v2 c5_i32_77
  let c8_i32_78 : BitVec 32 := 8#32
  let v98 : BitVec 32 := Scalar.remsi v97 c8_i32_78
  let c1_i32_82 : BitVec 32 := 1#32
  let v99 : BitVec 32 := Scalar.muli v98 c1_i32_82
  let v100 : BitVec 32 := Scalar.addi c0_i32_83 v99
  v100.toNat
def k0_dev13 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_88 : BitVec 32 := 6#32
  let v109 : BitVec 32 := Scalar.addi v2 c6_i32_88
  let c8_i32_89 : BitVec 32 := 8#32
  let v110 : BitVec 32 := Scalar.remsi v109 c8_i32_89
  let c1_i32_93 : BitVec 32 := 1#32
  let v111 : BitVec 32 := Scalar.muli v110 c1_i32_93
  let v112 : BitVec 32 := Scalar.addi c0_i32_94 v111
  v112.toNat
def k0_dev14 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_99 : BitVec 32 := 7#32
  let v121 : BitVec 32 := Scalar.addi v2 c7_i32_99
  let c8_i32_100 : BitVec 32 := 8#32
  let v122 : BitVec 32 := Scalar.remsi v121 c8_i32_100
  let c1_i32_104 : BitVec 32 := 1#32
  let v123 : BitVec 32 := Scalar.muli v122 c1_i32_104
  let v124 : BitVec 32 := Scalar.addi c0_i32_105 v123
  v124.toNat
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v138 : Index := Scalar.indexCast v2
  let c8 : Index := 8#32
  let c0_112 : Index := 0#32
  ![v138.toNat, 8, 0]
def k0_off5 (d0 : Dev nD) : Fin 2 → Nat :=
  let c1_i32_115 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_120 : BitVec 32 := 8#32
  let c0_i32_121 : BitVec 32 := 0#32
  ![v2.toNat, 8, 0]
def k0_dev15 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_113 : BitVec 32 := 1#32
  let v142 : BitVec 32 := Scalar.addi v2 c1_i32_113
  let c8_i32_114 : BitVec 32 := 8#32
  let v143 : BitVec 32 := Scalar.remsi v142 c8_i32_114
  let c1_i32_118 : BitVec 32 := 1#32
  let v144 : BitVec 32 := Scalar.muli v143 c1_i32_118
  let v145 : BitVec 32 := Scalar.addi c0_i32_119 v144
  v145.toNat
def k0_dev16 (d0 : Dev nD) : Nat :=
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_124 : BitVec 32 := 2#32
  let v154 : BitVec 32 := Scalar.addi v2 c2_i32_124
  let c8_i32_125 : BitVec 32 := 8#32
  let v155 : BitVec 32 := Scalar.remsi v154 c8_i32_125
  let c1_i32_129 : BitVec 32 := 1#32
  let v156 : BitVec 32 := Scalar.muli v155 c1_i32_129
  let v157 : BitVec 32 := Scalar.addi c0_i32_130 v156
  v157.toNat
def k0_dev17 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_135 : BitVec 32 := 3#32
  let v166 : BitVec 32 := Scalar.addi v2 c3_i32_135
  let c8_i32_136 : BitVec 32 := 8#32
  let v167 : BitVec 32 := Scalar.remsi v166 c8_i32_136
  let c1_i32_140 : BitVec 32 := 1#32
  let v168 : BitVec 32 := Scalar.muli v167 c1_i32_140
  let v169 : BitVec 32 := Scalar.addi c0_i32_141 v168
  v169.toNat
def k0_dev18 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_146 : BitVec 32 := 4#32
  let v178 : BitVec 32 := Scalar.addi v2 c4_i32_146
  let c8_i32_147 : BitVec 32 := 8#32
  let v179 : BitVec 32 := Scalar.remsi v178 c8_i32_147
  let c1_i32_151 : BitVec 32 := 1#32
  let v180 : BitVec 32 := Scalar.muli v179 c1_i32_151
  let v181 : BitVec 32 := Scalar.addi c0_i32_152 v180
  v181.toNat
def k0_dev19 (d0 : Dev nD) : Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_157 : BitVec 32 := 5#32
  let v190 : BitVec 32 := Scalar.addi v2 c5_i32_157
  let c8_i32_158 : BitVec 32 := 8#32
  let v191 : BitVec 32 := Scalar.remsi v190 c8_i32_158
  let c1_i32_162 : BitVec 32 := 1#32
  let v192 : BitVec 32 := Scalar.muli v191 c1_i32_162
  let v193 : BitVec 32 := Scalar.addi c0_i32_163 v192
  v193.toNat
def k0_dev20 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_168 : BitVec 32 := 6#32
  let v202 : BitVec 32 := Scalar.addi v2 c6_i32_168
  let c8_i32_169 : BitVec 32 := 8#32
  let v203 : BitVec 32 := Scalar.remsi v202 c8_i32_169
  let c1_i32_173 : BitVec 32 := 1#32
  let v204 : BitVec 32 := Scalar.muli v203 c1_i32_173
  let v205 : BitVec 32 := Scalar.addi c0_i32_174 v204
  v205.toNat
def k0_dev21 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_179 : BitVec 32 := 7#32
  let v214 : BitVec 32 := Scalar.addi v2 c7_i32_179
  let c8_i32_180 : BitVec 32 := 8#32
  let v215 : BitVec 32 := Scalar.remsi v214 c8_i32_180
  let c1_i32_184 : BitVec 32 := 1#32
  let v216 : BitVec 32 := Scalar.muli v215 c1_i32_184
  let v217 : BitVec 32 := Scalar.addi c0_i32_185 v216
  v217.toNat
def k0_off7 (d0 : Dev nD) (c1_i32_191 : BitVec 32) : Fin 2 → Nat :=
  let c0_i32_193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_190 : BitVec 32 := 8#32
  let v226 : BitVec 32 := Scalar.addi v2 c8_i32_190
  let v227 : BitVec 32 := Scalar.subi v226 c1_i32_191
  let c8_i32_192 : BitVec 32 := 8#32
  let v228 : BitVec 32 := Scalar.remsi v227 c8_i32_192
  ![0, v228.toNat]
def k0_off8 (d0 : Dev nD) (c1_i32_191 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_190 : BitVec 32 := 8#32
  let v226 : BitVec 32 := Scalar.addi v2 c8_i32_190
  let v227 : BitVec 32 := Scalar.subi v226 c1_i32_191
  let c8_i32_192 : BitVec 32 := 8#32
  let v228 : BitVec 32 := Scalar.remsi v227 c8_i32_192
  let c0_i32_198 : BitVec 32 := 0#32
  let c0_i32_199 : BitVec 32 := 0#32
  ![v228.toNat, 0, 0]
def k0_off9 (d0 : Dev nD) (c1_i32_289 : BitVec 32) : Fin 2 → Nat :=
  let c1_i32_291 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_288 : BitVec 32 := 8#32
  let v353 : BitVec 32 := Scalar.addi v2 c8_i32_288
  let v354 : BitVec 32 := Scalar.subi v353 c1_i32_289
  let c8_i32_290 : BitVec 32 := 8#32
  let v355 : BitVec 32 := Scalar.remsi v354 c8_i32_290
  ![1, v355.toNat]
def k0_off10 (d0 : Dev nD) (c1_i32_289 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_288 : BitVec 32 := 8#32
  let v353 : BitVec 32 := Scalar.addi v2 c8_i32_288
  let v354 : BitVec 32 := Scalar.subi v353 c1_i32_289
  let c8_i32_290 : BitVec 32 := 8#32
  let v355 : BitVec 32 := Scalar.remsi v354 c8_i32_290
  let c8_i32_296 : BitVec 32 := 8#32
  let c0_i32_297 : BitVec 32 := 0#32
  ![v355.toNat, 8, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x8192 : Shape := ⟨2, ![2048, 8192]⟩
abbrev S8192 : Shape := ⟨1, ![8192]⟩
abbrev S_ : Shape := ⟨0, ![]⟩
abbrev S2048 : Shape := ⟨1, ![2048]⟩
abbrev S2048x1 : Shape := ⟨2, ![2048, 1]⟩
abbrev S1x8192 : Shape := ⟨2, ![1, 8192]⟩

abbrev nBuf : Space → Nat
  | .hbm => 19
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192, .f32⟩
  | .hbm, ⟨2, _⟩ => ⟨S2048x8192, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S1x8192, .f32⟩
  | .hbm, ⟨14, _⟩ => ⟨S2048x8192, .f32⟩
  | .hbm, ⟨15, _⟩ => ⟨S2048x8192, .f32⟩
  | .hbm, ⟨16, _⟩ => ⟨S2048x8192, .f32⟩
  | .hbm, ⟨17, _⟩ => ⟨S2048x8192, .f32⟩
  | .hbm, ⟨18, _⟩ => ⟨S2048x8192, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Cells.lean ====
/-
# The cells of the exchange, the rows of the landing buffer, what the rows hold

Each device keeps, for eight devices, one row of partial sums of squares in a landing buffer of shape 8 x 16 x 128:
row `s` is device `s`'s, in two halves of eight lines (the first and the second 1024 rows of the input). A device
computes its own row, one half at a time, and sends each half to the seven others, into its row of THEIR buffer.

This module names the cells (one barrier, sixteen send and sixteen receive semaphores a device), the half rows as
sets of entries of the buffer, and the array `acc` that all buffers hold at the end.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.ShareLeaves
public import Idealize.ShloMosaic.Lib.Tactic

@[expose] public section

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds and, beside them, the exchange's, duties named by devices -/

/-- The ghost state of the exchange: a round at every semaphore, its duties named by devices, -/
abbrev UB : Type := URounds (GSem nD τ sig) (Dev nD)
/-- beside that of the windows. -/
abbrev UU : Type := UR sig nD τ × UB

local notation "𝕄" => MT nD τ sig Unit (Elt F) ℕ UU ℕ

/-- The windows' ghost state among all, -/
abbrev EP : Emb (UR sig nD τ) (MT nD τ sig Unit (Elt F) ℕ UU ℕ) := embL
/-- and the exchange's. -/
abbrev ER : Emb UB (MT nD τ sig Unit (Elt F) ℕ UU ℕ) := embR

/-! ## Who is `d` steps after, and before, a device -/

set_option backward.proofsInPublic true in
/-- The device `d` steps after `c`. -/
def nx (c : Dev nD) (d : Fin 8) : Dev nD := ⟨(c.val + d.val) % 8, Nat.mod_lt _ (by decide)⟩
set_option backward.proofsInPublic true in
/-- The device `d` steps before `c`. -/
def bk (c : Dev nD) (d : Fin 8) : Dev nD := ⟨(c.val + 8 - d.val) % 8, Nat.mod_lt _ (by decide)⟩
set_option backward.proofsInPublic true in
/-- How many steps after `c` the device `e` is. -/
def gap (c e : Dev nD) : Fin 8 := ⟨(e.val + 8 - c.val) % 8, Nat.mod_lt _ (by decide)⟩

/-- Zero steps after a device is the device itself, -/
theorem nx_zero (c : Dev nD) : nx c 0 = c := by revert c; decide
/-- and so is zero steps before; -/
theorem bk_zero (c : Dev nD) : bk c 0 = c := by revert c; decide
/-- a device a few steps after another is another, -/
theorem nx_ne (c : Dev nD) (d : Fin 8) (h : d ≠ 0) : nx c d ≠ c := by revert c d; decide
/-- and so is one a few steps before. -/
theorem bk_ne (c : Dev nD) (d : Fin 8) (h : d ≠ 0) : bk c d ≠ c := by revert c d; decide

/-- The eight devices counted from `c` upwards, -/
def nxE (c : Dev nD) : Fin 8 ≃ Dev nD := ⟨nx c, gap c, by revert c; decide, by revert c; decide⟩
/-- and from `c` downwards. -/
def bkE (c : Dev nD) : Fin 8 ≃ Dev nD := ⟨bk c, fun e => gap e c, by revert c; decide, by revert c; decide⟩

/-- The steps 1 to 7. -/
abbrev steps : List (Fin 8) := [1, 2, 3, 4, 5, 6, 7]

/-! ## Assertions over a list, taken one by one -/

/-- `Φ` of every entry of the list, one after the other. -/
def allOf {I : Type} (Φ : I → sProp 𝕄) : List I → sProp 𝕄
  | [] => iprop(emp)
  | i :: l => iprop(Φ i ∗ allOf Φ l)

omit [FloatOps F] in
/-- The first entry's assertion, then the others'. -/
theorem allOf_cons {I : Type} (Φ : I → sProp 𝕄) (i : I) (l : List I) : allOf Φ (i :: l) = iprop(Φ i ∗ allOf Φ l) := rfl

omit [FloatOps F] in
/-- Over a list without repetitions it is the assertion over the set of its entries. -/
theorem allOf_eq {I : Type} [DecidableEq I] (Φ : I → sProp 𝕄) : ∀ l : List I, l.Nodup → allOf Φ l = bigSep l.toFinset Φ
  | [], _ => rfl
  | i :: l, h => by
    rw [List.toFinset_cons, bigSep_insert (by rw [List.mem_toFinset]; exact (List.nodup_cons.mp h).1),
      ← allOf_eq Φ l (List.nodup_cons.mp h).2]
    rfl

omit [FloatOps F] in
/-- Over all eight devices: device `c`, then the others in the order of their distance after `c`, -/
theorem all_nx (c : Dev nD) (Φ : Dev nD → sProp 𝕄) :
    bigSep Finset.univ Φ = iprop(Φ c ∗ allOf (fun d => Φ (nx c d)) steps) := by
  rw [bigSep_univ_equiv (nxE c) Φ, show (Finset.univ : Finset (Fin 8)) = (0 :: steps).toFinset by decide, ← allOf_eq _ _ (by decide)]
  show iprop(Φ (nx c 0) ∗ _) = _
  rw [nx_zero]; rfl

omit [FloatOps F] in
/-- or of their distance before it. -/
theorem all_bk (c : Dev nD) (Φ : Dev nD → sProp 𝕄) :
    bigSep Finset.univ Φ = iprop(Φ c ∗ allOf (fun d => Φ (bk c d)) steps) := by
  rw [bigSep_univ_equiv (bkE c) Φ, show (Finset.univ : Finset (Fin 8)) = (0 :: steps).toFinset by decide, ← allOf_eq _ _ (by decide)]
  show iprop(Φ (bk c 0) ∗ _) = _
  rw [bk_zero]; rfl

omit [FloatOps F] in
/-- Over the eight step counts. -/
theorem all_steps (Φ : Fin 8 → sProp 𝕄) : bigSep Finset.univ Φ = iprop(Φ 0 ∗ allOf Φ steps) := by
  rw [show (Finset.univ : Finset (Fin 8)) = (0 :: steps).toFinset by decide, ← allOf_eq _ _ (by decide)]
  rfl

omit [FloatOps F] in
/-- An entailment at every entry is one over the list. -/
theorem allOf_mono {I : Type} {Φ Ψ : I → sProp 𝕄} (h : ∀ i, Φ i ⊢ Ψ i) : ∀ l : List I, allOf Φ l ⊢ allOf Ψ l
  | [] => .rfl
  | i :: l => BI.sep_mono (h i) (allOf_mono h l)

omit [FloatOps F] in
/-- Lists of pairs of assertions, zipped. -/
theorem allOf_sep {I : Type} [DecidableEq I] (Φ Ψ : I → sProp 𝕄) (l : List I) (h : l.Nodup) :
    allOf (fun i => iprop(Φ i ∗ Ψ i)) l = iprop(allOf Φ l ∗ allOf Ψ l) := by
  rw [allOf_eq _ _ h, allOf_eq _ _ h, allOf_eq _ _ h]
  exact bigSep_sep _ _ _

/-! ## The semaphores -/

/-- The runtime's barrier semaphore of collective id 0. -/
abbrev barS : Sem sig := (SemArray.scalar (sig.barrier 0 rfl) : Sems sig S_).sem

/-- Semaphore `[h, d]` is within the array. -/
theorem inb_pair (h : Fin 2) (d : Fin 8) : ∀ a, (![h.val, d.val] : Fin 2 → ℕ) a + S1x1.size a ≤ S2x8.size a := by revert h d; decide

/-- The send semaphore `[h, d]` of a device and its receive semaphore `[h, s]`. -/
def sendS (p : Fin 2 × Fin 8) : DmaSem sig :=
  ((cc0_scratch1.slice (Rect.unit (s := S2x8) ![p.1.val, p.2.val] S1x1.size (inb_pair p.1 p.2))).squeeze S_ squeezes_S1x1_S_).sem
/-- Receive semaphore `[h, s]`. -/
def recvS (p : Fin 2 × Fin 8) : DmaSem sig :=
  ((cc0_scratch2.slice (Rect.unit (s := S2x8) ![p.1.val, p.2.val] S1x1.size (inb_pair p.1 p.2))).squeeze S_ squeezes_S1x1_S_).sem

/-- The kernel's own semaphores: send or receive, -/
abbrev osem : (Fin 2 × Fin 8) ⊕ (Fin 2 × Fin 8) → SemLoc sig
  | .inl p => .dma (sendS p)
  | .inr p => .dma (recvS p)
/-- and all of the exchange's: the barrier first. -/
abbrev csem : Unit ⊕ ((Fin 2 × Fin 8) ⊕ (Fin 2 × Fin 8)) → SemLoc sig
  | .inl _ => .reg barS
  | .inr k => osem k

/-- The names of a device's cells: the barrier, the send semaphores, the receive semaphores. -/
abbrev Ck : Type := Unit ⊕ ((Fin 2 × Fin 8) ⊕ (Fin 2 × Fin 8))

/-- The cell of a device and a name, -/
abbrev kcell (ck : Dev nD × Ck) : GSem nD τ sig := ((ck.1 : Thread nD τ), csem ck.2)
/-- a device's barrier, -/
abbrev barCell (c : Dev nD) : GSem nD τ sig := ((c : Thread nD τ), .reg barS)
/-- its send cells, -/
abbrev sendCell (c : Dev nD) (p : Fin 2 × Fin 8) : GSem nD τ sig := ((c : Thread nD τ), .dma (sendS p))
/-- its receive cells. -/
abbrev recvCell (c : Dev nD) (p : Fin 2 × Fin 8) : GSem nD τ sig := ((c : Thread nD τ), .dma (recvS p))

/-- Different names are different semaphores, -/
theorem csem_injective : Function.Injective csem := by decide
/-- and different pairs different cells. -/
theorem kcell_injective : Function.Injective kcell := by
  rintro ⟨c, k⟩ ⟨c', k'⟩ h
  have h1 : c = c' := congrArg (fun g : GSem nD τ sig => g.1.1) h
  have h2 : k = k' := csem_injective (congrArg (fun g : GSem nD τ sig => g.2) h)
  rw [h1, h2]

/-! ## The half rows of the landing buffer -/

/-- The buffers of the body: the input, -/
abbrev xM : Memref sig .tc .vmem S2048x1024 .f32 := Memref.whole cc0_stg0_0
/-- the scale, -/
abbrev gM : Memref sig .tc .vmem S1024 .f32 := Memref.whole cc0_stg1_0
/-- the result, -/
abbrev oM : Memref sig .tc .vmem S2048x1024 .bf16 := Memref.whole cc0_stg2_0
/-- the landing buffer. -/
abbrev aM : Memref sig .tc .vmem S8x16x128 .f32 := Memref.whole cc0_scratch0

/-- A half row is within the buffer. -/
theorem inb_row (s : Dev nD) (h : Fin 2) : ∀ a, (![s.val, 8 * h.val, 0] : Fin 3 → ℕ) a + S1x8x128.size a ≤ S8x16x128.size a := by
  revert s h; decide

/-- Half `h` of row `s` as the memref a transfer names. -/
abbrev rowM (s : Dev nD) (h : Fin 2) : Memref sig .tc .vmem S8x128 .f32 :=
  ((aM).slice (Rect.unit (s := S8x16x128) ![s.val, 8 * h.val, 0] S1x8x128.size (inb_row s h)) (fun _ => rfl)).squeeze S8x128 squeezes_S1x8x128_S8x128

/-- Its entries in the buffer. -/
def rowSet (s : Dev nD) (h : Fin 2) : Finset S8x16x128.Idx :=
  (Rect.unit (s := S8x16x128) ![s.val, 8 * h.val, 0] S1x8x128.size (inb_row s h)).set

/-- An entry is in half `h` of row `s` if its first coordinate is `s` and its second is among the half's eight lines. -/
theorem mem_rowSet (s : Dev nD) (h : Fin 2) (i : S8x16x128.Idx) :
    i ∈ rowSet s h ↔ (i 0).val = s.val ∧ 8 * h.val ≤ (i 1).val ∧ (i 1).val < 8 * h.val + 8 := by
  unfold rowSet
  rw [Rect.mem_set_unit, Fin.forall_fin_succ, Fin.forall_fin_succ, Fin.forall_fin_one]
  have h2 : (i 2).val < 128 := (i 2).isLt
  show (s.val ≤ (i 0).val ∧ (i 0).val < s.val + 1) ∧ (8 * h.val ≤ (i 1).val ∧ (i 1).val < 8 * h.val + 8) ∧ (0 ≤ (i 2).val ∧ (i 2).val < 0 + 128) ↔ _
  omega

/-- The transfer's memref covers these entries, -/
theorem rowM_set (s : Dev nD) (h : Fin 2) : (rowM s h).view.set = rowSet s h := by
  show ((((View.whole cc0_scratch0).slice _).reshape _ _) : View sig .tc _ _ _).set = _
  rw [View.set_reshape, View.set_slice_whole]; rfl

/-- and so does the store of a half row. -/
theorem access_set (s : Dev nD) (h : Fin 2) :
    ((aM).access (Rect.unit (s := S8x16x128) ![s.val, 8 * h.val, 0] S1x8x128.size (inb_row s h))).set = rowSet s h := by
  show ((View.whole cc0_scratch0).slice _).set = _
  rw [View.set_slice_whole]; rfl

/-- The half rows of one half are apart, -/
theorem rows_disjoint (h : Fin 2) : ∀ s ∈ (Finset.univ : Finset (Dev nD)), ∀ s' ∈ (Finset.univ : Finset (Dev nD)), s ≠ s' → Disjoint (rowSet s h) (rowSet s' h) := by
  intro s _ s' _ hn
  rw [Finset.disjoint_left]
  intro i hi hi'
  rw [mem_rowSet] at hi hi'
  exact hn (Fin.ext (hi.1.symm.trans hi'.1))

/-- All entries of half `h`. -/
def halfSet (h : Fin 2) : Finset S8x16x128.Idx := (Finset.univ : Finset (Dev nD)).biUnion fun s => rowSet s h

/-- An entry is in half `h` if its second coordinate is among the half's eight lines. -/
theorem mem_halfSet (h : Fin 2) (i : S8x16x128.Idx) : i ∈ halfSet h ↔ 8 * h.val ≤ (i 1).val ∧ (i 1).val < 8 * h.val + 8 := by
  unfold halfSet
  rw [Finset.mem_biUnion]
  constructor
  · rintro ⟨s, _, hs⟩; exact ((mem_rowSet s h i).mp hs).2
  · intro hi; exact ⟨i 0, Finset.mem_univ _, (mem_rowSet _ h i).mpr ⟨rfl, hi⟩⟩

/-- and the two halves make the buffer. -/
theorem halves_disjoint : Disjoint (halfSet 0) (halfSet 1) := by
  rw [Finset.disjoint_left]
  intro i hi hi'
  rw [mem_halfSet] at hi hi'
  have h0 : ((0 : Fin 2).val) = 0 := rfl
  have h1 : ((1 : Fin 2).val) = 1 := rfl
  omega

/-- Together the two halves are the whole buffer. -/
theorem halves_univ : halfSet 0 ∪ halfSet 1 = Finset.univ := by
  ext i
  have h0 : ((0 : Fin 2).val) = 0 := rfl
  have h1 : ((1 : Fin 2).val) = 1 := rfl
  have hi : (i 1).val < 16 := (i 1).isLt
  simp only [Finset.mem_union, mem_halfSet, Finset.mem_univ, iff_true]
  omega

/-- Device `c`'s half row `(s, h)` at share `q`, holding `f`. -/
def rowPts (c s : Dev nD) (h : Fin 2) (q : PosShare TreeShare) (f : S8x16x128.Idx → Elt F .f32) : sProp 𝕄 :=
  (((c : Thread nD τ).loc cc0_scratch0) ↦[rowSet s h]{q} f : sProp 𝕄)

omit [FloatOps F] in
/-- A half row may be handed over with a signal. -/
instance rowPts_storable (c s : Dev nD) (h : Fin 2) (q) (f) : BI.Storable (upEmb : UEmb _ 𝕄) (rowPts (F := F) c s h q f) := by
  unfold rowPts; infer_instance

/-- The bytes a half row's transfer signals. -/
abbrev N : ℕ := (rowM 0 0).view.dmaCredit
/-- A half row has some bytes. -/
theorem N_pos : 0 < N := View.dmaCredit_pos _ (by decide)

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s columns of the input, -/
abbrev xIn (c : Dev nD) : S2048x1024.Idx → Elt F .f32 := m ((c : Thread nD τ).loc main_arg0)
/-- and of the scale. -/
abbrev gIn (c : Dev nD) : S1024.Idx → Elt F .f32 := m ((c : Thread nD τ).loc main_arg1)

/-- Rows `0` to `1023` of device `c`'s input, then `1024` to `2047`. -/
abbrev xLo (c : Dev nD) : Vec F S1024x1024 .f32 :=
  (xM).view.readAt (Elt F) (Rect.unit (s := S2048x1024) ![0, 0] S1024x1024.size inb_S2048x1024_S1024x1024_0_0).toLoadRect (xIn m c)
/-- Rows `1024` to `2047` of device `c`'s input. -/
abbrev xHi (c : Dev nD) : Vec F S1024x1024 .f32 :=
  (xM).view.readAt (Elt F) (Rect.unit (s := S2048x1024) ![1024, 0] S1024x1024.size inb_S2048x1024_S1024x1024_1024_0).toLoadRect (xIn m c)

/-- The entry `(0, a, b)` of a block of eight lines. -/
def at8 (a : ℕ) (ha : a < 8) (b : Fin 128) : S1x8x128.Idx := fun k => match k with
  | ⟨0, _⟩ => ⟨0, Nat.one_pos⟩
  | ⟨1, _⟩ => ⟨a, ha⟩
  | ⟨2, _⟩ => b

/-- What every landing buffer holds once all half rows are in: row `s` is the sums of squares of device `s`'s columns,
    its first eight lines those of the input's rows `0` to `1023`, the other eight those of the rest. -/
def acc : S8x16x128.Idx → Elt F .f32 := fun i =>
  if h : (i 1).val < 8 then k0_pay3 (xLo m (i 0)) (at8 (i 1).val h (i 2))
  else k0_pay4 (xHi m (i 0)) (at8 ((i 1).val - 8) (by have : (i 1).val < 16 := (i 1).isLt; omega) (i 2))

/-- A device's store of its first half row makes that half row what `acc` says, -/
theorem acc_lo (f : S8x16x128.Idx → Elt F .f32) (c : Dev nD) (i) (hi : i ∈ rowSet c 0) :
    ((aM).access (Rect.unit (s := S8x16x128) ![c.val, 8 * (0 : Fin 2).val, 0] S1x8x128.size (inb_row c 0))).write (Elt F) f (k0_pay3 (xLo m c)) Finset.univ i = acc m i := by
  obtain ⟨j, rfl⟩ := (Rect.unit (s := S8x16x128) ![c.val, 8 * (0 : Fin 2).val, 0] S1x8x128.size (inb_row c 0)).toLoadRect.exists_idx_of_mem hi
  refine (View.write_emb_of_mem (v := (aM).access (Rect.unit (s := S8x16x128) ![c.val, 8 * (0 : Fin 2).val, 0] S1x8x128.size (inb_row c 0))) _ _ (Finset.mem_univ j)).trans ?_
  generalize hk : (Rect.unit (s := S8x16x128) ![c.val, 8 * (0 : Fin 2).val, 0] S1x8x128.size (inb_row c 0)).toLoadRect.idx j = k at hi
  have j0 : (j 0).val < 1 := (j 0).isLt
  have j1 : (j 1).val < 8 := (j 1).isLt
  have e0 : k 0 = c := Fin.ext (by rw [← hk]; show c.val + 1 * (j 0).val = c.val; omega)
  have e1 : (k 1).val = (j 1).val := by rw [← hk]; show 8 * 0 + 1 * (j 1).val = (j 1).val; omega
  have e2 : k 2 = j 2 := Fin.ext (by rw [← hk]; show 0 + 1 * (j 2).val = (j 2).val; omega)
  unfold acc
  rw [dif_pos (by rw [e1]; exact j1), e0]
  refine congrArg (k0_pay3 (xLo m c)) (funext fun a => ?_)
  match a with
  | ⟨0, _⟩ => exact Fin.ext (by show (j 0).val = 0; omega)
  | ⟨1, _⟩ => exact Fin.ext e1.symm
  | ⟨2, _⟩ => exact e2.symm

/-- and so does its store of the second. -/
theorem acc_hi (f : S8x16x128.Idx → Elt F .f32) (c : Dev nD) (i) (hi : i ∈ rowSet c 1) :
    ((aM).access (Rect.unit (s := S8x16x128) ![c.val, 8 * (1 : Fin 2).val, 0] S1x8x128.size (inb_row c 1))).write (Elt F) f (k0_pay4 (xHi m c)) Finset.univ i = acc m i := by
  obtain ⟨j, rfl⟩ := (Rect.unit (s := S8x16x128) ![c.val, 8 * (1 : Fin 2).val, 0] S1x8x128.size (inb_row c 1)).toLoadRect.exists_idx_of_mem hi
  refine (View.write_emb_of_mem (v := (aM).access (Rect.unit (s := S8x16x128) ![c.val, 8 * (1 : Fin 2).val, 0] S1x8x128.size (inb_row c 1))) _ _ (Finset.mem_univ j)).trans ?_
  generalize hk : (Rect.unit (s := S8x16x128) ![c.val, 8 * (1 : Fin 2).val, 0] S1x8x128.size (inb_row c 1)).toLoadRect.idx j = k at hi
  have j0 : (j 0).val < 1 := (j 0).isLt
  have j1 : (j 1).val < 8 := (j 1).isLt
  have e0 : k 0 = c := Fin.ext (by rw [← hk]; show c.val + 1 * (j 0).val = c.val; omega)
  have e1 : (k 1).val = 8 + (j 1).val := by rw [← hk]; show 8 * 1 + 1 * (j 1).val = 8 + (j 1).val; omega
  have e2 : k 2 = j 2 := Fin.ext (by rw [← hk]; show 0 + 1 * (j 2).val = (j 2).val; omega)
  unfold acc
  rw [dif_neg (by rw [e1]; omega), e0]
  refine congrArg (k0_pay4 (xHi m c)) (funext fun a => ?_)
  match a with
  | ⟨0, _⟩ => exact Fin.ext (by show (j 0).val = 0; omega)
  | ⟨1, _⟩ => exact Fin.ext (by show (j 1).val = (k 1).val - 8; omega)
  | ⟨2, _⟩ => exact e2.symm

/-- A half row as it lands, read from one buffer and written into another that held `fd`: the source's entries. -/
theorem landed_eq (s : Dev nD) (h : Fin 2) (fd fs : S8x16x128.Idx → Elt F .f32) (i) (hi : i ∈ rowSet s h) :
    (rowM s h).view.write (Elt F) fd ((rowM s h).view.read (Elt F) fs) Finset.univ i = fs i := by
  rw [View.write_read_eq_piecewise]
  exact Finset.piecewise_eq_of_mem _ _ _ (by
    show i ∈ (rowM s h).view.set
    rw [rowM_set]; exact hi)

end Cert.Exch
-- ==== Proof.Schedule.lean ====
/-
# The protocol of the exchange, as a schedule of duties

Every cell has one round.

* Device `c`'s BARRIER cell is paid one unit by each of the seven other devices. Device `p`'s unit hands `c` both halves
  of row `c` of `p`'s landing buffer — the memory `c`'s transfers to `p` write. `c` waits for all seven.
* `c`'s SEND cell `[h, d]`, `d` from 1 to 7, is paid the credit of a half row by `c`'s own transfer of half `h` to the
  device `d` steps after it; with it comes back the share of `c`'s own row that the transfer read.
* `c`'s RECEIVE cell `[h, s]`, `s` another device, is paid the credit of a half row by `s`'s transfer; with it comes half
  `h` of row `s` of `c`'s landing buffer, holding `acc`.

Semaphores `[h, 0]` of the send array and `[h, c]` of the receive array are never used.
-/
module

public import proofs.«01_k».proof.Proof.Cells

@[expose] public section

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The eighth of a device's own half row that its transfer `d` reads (`0`: the eighth it keeps). -/
def shr (d : Fin 8) : PosShare TreeShare := ShareLeaves.leaf 3 fullShare d

/-- What `p`'s signal hands `c`: both halves of row `c` of `p`'s landing buffer, whatever they hold. -/
def barPay (c p : Dev nD) : sProp 𝕄 := iprop((∃ f, rowPts p c 0 fullShare f) ∗ (∃ f, rowPts p c 1 fullShare f))

/-- Who signals a cell: the seven others a barrier; one transfer each used send or receive cell, named by device 0. -/
def dutyOf : Dev nD × Ck → Finset (Dev nD)
  | (c, .inl _) => Finset.univ.erase c
  | (_, .inr (.inl p)) => if p.2 = 0 then ∅ else {0}
  | (c, .inr (.inr p)) => if p.2 = c then ∅ else {0}

/-- By how much: one at a barrier, a half row's bytes at the others. -/
def amtOf : Dev nD × Ck → ℕ
  | (_, .inl _) => 1
  | (_, .inr _) => N

/-- What arrives with the signal: at a barrier the rows to send into, at a send cell the share read, at a receive cell the half row landed. -/
def payOf : Dev nD × Ck → Dev nD → sProp 𝕄
  | (c, .inl _) => fun p => barPay c p
  | (c, .inr (.inl p)) => fun _ => rowPts c c p.1 (shr p.2) (acc m)
  | (c, .inr (.inr p)) => fun _ => rowPts c p.2 p.1 fullShare (acc m)

/-- The schedule: the tables above at the exchange's cells, nothing elsewhere; one round. -/
def sched : Rounds.Schedule (GSem nD τ sig) (Dev nD) 𝕄 where
  duties g r := if r = 0 then Function.extend kcell dutyOf (fun _ => ∅) g else ∅
  unitless _ := False
  amount g _ _ := Function.extend kcell amtOf (fun _ => 1) g
  payload g _ p := Function.extend kcell (payOf m) (fun _ _ => iprop(emp)) g p
  amount_pos g _ _ _ := by
    by_cases h : ∃ a, kcell a = g
    · obtain ⟨⟨c, k⟩, rfl⟩ := h
      rw [kcell_injective.extend_apply]
      match k with
      | .inl _ => exact Nat.one_pos
      | .inr _ => exact N_pos
    · rw [Function.extend_apply' _ _ _ h]; exact Nat.one_pos

/-- All of it may be handed over. -/
instance payload_storable (g : GSem nD τ sig) (r : ℕ) (d : Dev nD) : BI.Storable (upEmb : UEmb _ 𝕄) ((sched (F := F) m).payload g r d) := by
  show BI.Storable upEmb (Function.extend kcell (payOf m) (fun _ _ => iprop(emp)) g d)
  by_cases h : ∃ a, kcell a = g
  · obtain ⟨⟨c, k⟩, rfl⟩ := h
    rw [kcell_injective.extend_apply]
    match k with
    | .inl _ => dsimp only [payOf]; unfold barPay; infer_instance
    | .inr (.inl _) => dsimp only [payOf]; infer_instance
    | .inr (.inr _) => dsimp only [payOf]; infer_instance
  · rw [Function.extend_apply' _ _ _ h]; infer_instance

section Sched

/-- The schedule's duties at a cell of the exchange, -/
theorem duties_at (c : Dev nD) (k : Ck) : (sched (F := F) m).duties (kcell (c, k)) 0 = dutyOf (c, k) := by
  show (if (0 : ℕ) = 0 then Function.extend kcell dutyOf (fun _ => ∅) (kcell (c, k)) else ∅) = _
  rw [if_pos rfl, kcell_injective.extend_apply]
/-- its amounts, -/
theorem amount_at (c : Dev nD) (k : Ck) (d : Dev nD) : (sched (F := F) m).amount (kcell (c, k)) 0 d = amtOf (c, k) := by
  show Function.extend kcell amtOf (fun _ => 1) (kcell (c, k)) = _
  rw [kcell_injective.extend_apply]
/-- and what arrives there. -/
theorem payload_at (c : Dev nD) (k : Ck) (d : Dev nD) : (sched (F := F) m).payload (kcell (c, k)) 0 d = payOf m (c, k) d := by
  show Function.extend kcell (payOf m) (fun _ _ => iprop(emp)) (kcell (c, k)) d = _
  rw [kcell_injective.extend_apply]
/-- There is only one round. -/
theorem duties_later (g : GSem nD τ sig) : ∀ r, 1 ≤ r → (sched (F := F) m).duties g r = ∅ :=
  fun r hr => if_neg (by omega)

/-- Every other device signals the barrier. -/
theorem mem_bar (c p : Dev nD) (h : p ≠ c) : p ∈ (sched (F := F) m).duties (barCell c) 0 := by
  rw [show barCell c = kcell (c, .inl ()) from rfl, duties_at]
  exact Finset.mem_erase.mpr ⟨h, Finset.mem_univ _⟩
/-- A used send cell has one duty, -/
theorem duties_send (c : Dev nD) (p : Fin 2 × Fin 8) (h : p.2 ≠ 0) : (sched (F := F) m).duties (sendCell c p) 0 = {0} := by
  rw [show sendCell c p = kcell (c, .inr (.inl p)) from rfl, duties_at]; exact if_neg h
/-- and so has a used receive cell. -/
theorem duties_recv (c : Dev nD) (p : Fin 2 × Fin 8) (h : p.2 ≠ c) : (sched (F := F) m).duties (recvCell c p) 0 = {0} := by
  rw [show recvCell c p = kcell (c, .inr (.inr p)) from rfl, duties_at]; exact if_neg h
/-- The semaphores nobody uses have no duty at all. -/
theorem duties_send_zero (c : Dev nD) (h : Fin 2) : ∀ r, 0 ≤ r → (sched (F := F) m).duties (sendCell c (h, 0)) r = ∅ := by
  intro r _
  rcases Nat.eq_zero_or_pos r with rfl | hr
  · rw [show sendCell c (h, 0) = kcell (c, .inr (.inl (h, 0))) from rfl, duties_at]; rfl
  · exact duties_later m _ r hr
/-- A device's receive cell for itself has none. -/
theorem duties_recv_self (c : Dev nD) (h : Fin 2) : ∀ r, 0 ≤ r → (sched (F := F) m).duties (recvCell c (h, c)) r = ∅ := by
  intro r _
  rcases Nat.eq_zero_or_pos r with rfl | hr
  · rw [show recvCell c (h, c) = kcell (c, .inr (.inr (h, c))) from rfl, duties_at]; exact if_pos rfl
  · exact duties_later m _ r hr

/-- A barrier's signals are of one, -/
theorem amount_bar (c d : Dev nD) : (sched (F := F) m).amount (barCell c) 0 d = 1 := amount_at m c (.inl ()) d
/-- a send cell's of a half row's bytes, -/
theorem amount_send (c : Dev nD) (p) (d : Dev nD) : (sched (F := F) m).amount (sendCell c p) 0 d = N := amount_at m c (.inr (.inl p)) d
/-- and a receive cell's too. -/
theorem amount_recv (c : Dev nD) (p) (d : Dev nD) : (sched (F := F) m).amount (recvCell c p) 0 d = N := amount_at m c (.inr (.inr p)) d

/-- With a barrier's signal come the rows to send into, -/
theorem payload_bar (c p : Dev nD) : (sched (F := F) m).payload (barCell c) 0 p = barPay c p := payload_at m c (.inl ()) p
/-- with a send cell's the share read, -/
theorem payload_send (c : Dev nD) (p) (d : Dev nD) : (sched (F := F) m).payload (sendCell c p) 0 d = rowPts c c p.1 (shr p.2) (acc m) :=
  payload_at m c (.inr (.inl p)) d
/-- with a receive cell's the half row, landed. -/
theorem payload_recv (c : Dev nD) (p) (d : Dev nD) : (sched (F := F) m).payload (recvCell c p) 0 d = rowPts c p.2 p.1 fullShare (acc m) :=
  payload_at m c (.inr (.inr p)) d

/-- A barrier's round ends at seven, -/
theorem expect_bar (c : Dev nD) : (sched (F := F) m).expect (barCell c) 0 = 7 := by
  unfold Schedule.expect Schedule.amountOf
  rw [Finset.sum_congr rfl fun d _ => amount_bar m c d, show barCell c = kcell (c, .inl ()) from rfl, duties_at]
  show ∑ _p ∈ Finset.univ.erase c, 1 = 7
  revert c; decide
/-- a used send cell's at a half row's bytes, -/
theorem expect_send (c : Dev nD) (p) (h : p.2 ≠ 0) : (sched (F := F) m).expect (sendCell c p) 0 = N := by
  unfold Schedule.expect Schedule.amountOf; rw [duties_send m c p h, Finset.sum_singleton, amount_send]
/-- and a used receive cell's too. -/
theorem expect_recv (c : Dev nD) (p) (h : p.2 ≠ c) : (sched (F := F) m).expect (recvCell c p) 0 = N := by
  unfold Schedule.expect Schedule.amountOf; rw [duties_recv m c p h, Finset.sum_singleton, amount_recv]

/-- All that the barrier wait yields: of each of the other devices, in the order of their distance, its row `c`. -/
theorem rest_bar (c : Dev nD) :
    bigSep ((sched (F := F) m).duties (barCell c) 0 \ ∅) (fun d => (sched (F := F) m).payload (barCell c) 0 d)
      = allOf (fun d => barPay c (nx c d)) steps := by
  rw [Finset.sdiff_empty, show barCell c = kcell (c, .inl ()) from rfl, duties_at]
  rw [show dutyOf (c, .inl ()) = steps.toFinset.map (nxE c).toEmbedding by revert c; decide, bigSep_map, allOf_eq _ _ (by decide)]
  exact bigSep_congr fun d _ => payload_bar m c (nx c d)
/-- All that a send cell's wait yields: the share the transfer read. -/
theorem rest_send (c : Dev nD) (p) (h : p.2 ≠ 0) :
    bigSep ((sched (F := F) m).duties (sendCell c p) 0 \ ∅) (fun d => (sched (F := F) m).payload (sendCell c p) 0 d)
      = rowPts c c p.1 (shr p.2) (acc m) := by
  rw [Finset.sdiff_empty, duties_send m c p h, bigSep_singleton, payload_send]
/-- All that a receive cell's wait yields: the half row, landed. -/
theorem rest_recv (c : Dev nD) (p) (h : p.2 ≠ c) :
    bigSep ((sched (F := F) m).duties (recvCell c p) 0 \ ∅) (fun d => (sched (F := F) m).payload (recvCell c p) 0 d)
      = rowPts c p.2 p.1 fullShare (acc m) := by
  rw [Finset.sdiff_empty, duties_recv m c p h, bigSep_singleton, payload_recv]

end Sched

/-! ## What each device owes at launch; the levels -/

/-- The transfers of a device, in program order: half, then distance. -/
abbrev slots : List (Fin 2 × Fin 8) := [(0, 1), (0, 2), (0, 3), (0, 4), (0, 5), (0, 6), (0, 7), (1, 1), (1, 2), (1, 3), (1, 4), (1, 5), (1, 6), (1, 7)]

/-- Device `c` owes, for every transfer of the list, its credit to the receive cell of the target, -/
def oweR (c : Dev nD) : List (Fin 2 × Fin 8) → CellTallies nD τ sig Unit
  | [] => 0
  | p :: l => oweR c l + tallyAt (recvCell (nx c p.2) (p.1, c)) () N
/-- and, for every signal of the list, a unit to the barrier cell of the device signalled, all the transfers still to come. -/
def oweS (c : Dev nD) : List (Fin 8) → CellTallies nD τ sig Unit
  | [] => oweR c slots
  | d :: l => oweS c l + tallyAt (barCell (nx c d)) () 1

/-- Only cells of the devices' programs have a level. -/
def L (g : GSem nD τ sig) : Finset Unit := if g.1.2 = .tc then {()} else ∅
/-- Cells of other threads have none, -/
theorem L_of_ne (g : GSem nD τ sig) (h : g.1.2 ≠ .tc) : L g = ∅ := if_neg h
/-- these have one. -/
theorem L_tc (c : Dev nD) (sm : SemLoc sig) : L ((c : Thread nD τ), sm) = {()} := if_pos rfl

/-- The order of the waits: send cells, then barriers, then receive cells. -/
def lvOf : Dev nD × Ck → ℕ
  | (_, .inl _) => 1
  | (_, .inr (.inl _)) => 0
  | (_, .inr (.inr _)) => 2
/-- Barrier cells at 1, receive cells at 2, everything else (staging, send) at 0. -/
def lv (g : GSem nD τ sig) (_ : Unit) : ℕ := Function.extend kcell lvOf (fun _ => 0) g
/-- The level of a cell of the exchange, -/
theorem lv_at (c : Dev nD) (k : Ck) (u : Unit) : lv (kcell (c, k)) u = lvOf (c, k) := kcell_injective.extend_apply _ _ _
/-- and of any other. -/
theorem lv_other (c : Dev nD) (sm : SemLoc sig) (h : ∀ k, csem k ≠ sm) (u : Unit) : lv ((c : Thread nD τ), sm) u = 0 :=
  Function.extend_apply' _ _ _ fun ⟨⟨c', k⟩, hk⟩ => h k (congrArg (fun g : GSem nD τ sig => g.2) hk)

/-- Debts of transfers are to receive cells; -/
theorem oweR_pos {c : Dev nD} {g : GSem nD τ sig} {u : Unit} : ∀ {l : List (Fin 2 × Fin 8)}, 0 < oweR c l g u → ∃ e p, g = recvCell e p
  | [], h => absurd h (Nat.lt_irrefl 0)
  | p :: l, h => by
    unfold oweR at h
    rw [Pi.add_apply, Finsupp.add_apply, tallyAt_apply] at h
    by_cases hg : g = recvCell (nx c p.2) (p.1, c) ∧ u = ()
    · exact ⟨_, _, hg.1⟩
    · rw [if_neg hg, Nat.add_zero] at h; exact oweR_pos h

/-- debts of signals and transfers are to receive cells and barriers. -/
theorem oweS_pos {c : Dev nD} {g : GSem nD τ sig} {u : Unit} : ∀ {l : List (Fin 8)}, 0 < oweS c l g u → (∃ e p, g = recvCell e p) ∨ ∃ e, g = barCell e
  | [], h => .inl (oweR_pos h)
  | d :: l, h => by
    unfold oweS at h
    rw [Pi.add_apply, Finsupp.add_apply, tallyAt_apply] at h
    by_cases hg : g = barCell (nx c d) ∧ u = ()
    · exact .inr ⟨_, hg.1⟩
    · rw [if_neg hg, Nat.add_zero] at h; exact oweS_pos h

omit [FloatOps F] in
/-- A wait on a semaphore outside the exchange (a staging copy's) is allowed whatever of the launch debt is left. -/
theorem mayWait_stage (c : Dev nD) (q : DmaSem sig) (hq : ∀ k, csem k ≠ .dma q) (O : CellTallies nD τ sig Unit) (hO : O = oweS c steps ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oweS_pos hg with ⟨e, p, rfl⟩ | ⟨e, rfl⟩ <;> exact Finset.mem_singleton_self _)
      (fun p hp => by rw [Finset.mem_singleton.mp hp, lv_other c _ hq])
      (fun g u hg => by
        rcases oweS_pos hg with ⟨e, p, rfl⟩ | ⟨e, rfl⟩
        · rw [show recvCell e p = kcell (e, .inr (.inr p)) from rfl, lv_at]; exact Nat.two_pos
        · rw [show barCell e = kcell (e, .inl ()) from rfl, lv_at]; exact Nat.one_pos)
  · rw [MayWait_zero]; iintro -; iempintro

omit [FloatOps F] in
/-- At its barrier wait a device owes receive credits only, all above its barrier cell. -/
theorem mayWait_bar (c : Dev nD) : (levAts L lv : sProp 𝕄) ⊢ MayWait (c : Thread nD τ) (.reg barS) () (oweR c slots) :=
  MayOwe.of_cut (L := L) (lev := lv) 1 (fun p hp => by rw [Finset.mem_singleton.mp hp, L_tc]; exact Finset.mem_singleton_self _)
    (fun g u hg => by obtain ⟨e, p, rfl⟩ := oweR_pos hg; exact Finset.mem_singleton_self _)
    (fun p hp => by
      rw [Finset.mem_singleton.mp hp]
      show lv (kcell (c, .inl ())) _ ≤ 1
      rw [lv_at]; exact Nat.le_refl 1)
    (fun g u hg => by
      obtain ⟨e, p, rfl⟩ := oweR_pos hg
      rw [show recvCell e p = kcell (e, .inr (.inr p)) from rfl, lv_at]; exact Nat.one_lt_two)

end Cert.Exch
-- ==== Proof.Steps.lean ====
/-
# One step of the exchange at a time

What a device holds while it signals, sends, waits for what the others send, and waits for its own transfers, each as an
assertion over the list of what is still to do; and one rule for each effect, which moves the head of that list on.
-/
module

public import proofs.«01_k».proof.Proof.Schedule

@[expose] public section

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- No loop needs a variant. -/
abbrev 𝒱₀ : Variants := Variants.none

/-! ## The facts every device may use -/

/-- Every cell's invariant, at the name it was allocated under, and that its round 0 has begun. -/
def records (K : Dev nD × Ck → ℕ) : sProp 𝕄 :=
  iprop((bigSep Finset.univ fun ck => cellInv ER (sched m) (K ck) (kcell ck)) ∗ (bigSep Finset.univ fun ck => reached ER (kcell ck) 0))

/-- These facts may be used again and again. -/
instance records_persistent (K : Dev nD × Ck → ℕ) : BI.Persistent (records (F := F) m K) := by
  unfold records
  infer_instance

/-- One cell's invariant out of all, -/
theorem inv_at (K : Dev nD × Ck → ℕ) (ck : Dev nD × Ck) :
    (bigSep Finset.univ fun ck : Dev nD × Ck => (cellInv ER (sched m) (K ck) (kcell ck) : sProp 𝕄)) ⊢ cellInv ER (sched m) (K ck) (kcell ck) :=
  bigSep_elim (Finset.mem_univ ck)
omit [FloatOps F] in
/-- and its begun round; -/
theorem reached_at (ck : Dev nD × Ck) : (bigSep Finset.univ fun ck : Dev nD × Ck => (reached ER (kcell ck) 0 : sProp 𝕄)) ⊢ reached ER (kcell ck) 0 :=
  bigSep_elim (Finset.mem_univ ck)

/-- the same out of the facts every device may use: -/
theorem records_inv (K : Dev nD × Ck → ℕ) (c : Dev nD) (k : Ck) : records (F := F) m K ⊢ cellInv ER (sched m) (K (c, k)) (kcell (c, k)) := by
  unfold records
  iintro ⟨H, -⟩
  iapply (inv_at m K (c, k)); iexact H
/-- the invariant, and the begun round. -/
theorem records_reached (K : Dev nD × Ck → ℕ) (c : Dev nD) (k : Ck) : records (F := F) m K ⊢ reached ER (kcell (c, k)) 0 := by
  unfold records
  iintro ⟨-, H⟩
  iapply (reached_at (c, k)); iexact H

/-- Device `c` owes `O`, whatever its record of past waits. -/
def owesE (c : Dev nD) (O : CellTallies nD τ sig Unit) : sProp 𝕄 := iprop(∃ W, owes (c : Thread nD τ) O W)

/-! ## Signalling -/

/-- To signal the device `d` steps on: the duty, and the rows handed over with it. -/
def sigRes (c : Dev nD) (d : Fin 8) : sProp 𝕄 := iprop(dutyTok ER (barCell (nx c d)) 0 c ∗ barPay (nx c d) c)
/-- Signals `l` are still to be made. -/
def sigSt (c : Dev nD) (l : List (Fin 8)) : sProp 𝕄 := iprop(owesE c (oweS c l) ∗ allOf (sigRes c) l)

variable (K : Dev nD × Ck → ℕ)

/-- One signal: the rows handed over, one debt fewer. -/
theorem step_signal (c n : Dev nD) (d : Fin 8) (hd : d ≠ 0) (l : List (Fin 8)) (hn : n = nx c d) {a : ℕ} (ha : 1 = a) {α : Type} {Q : α → sProp 𝕄}
    {k : PUnit → Prog (TpuEff nD τ sig (Elt F) Λ₀ .tc) α} :
    iprop(records m K ∗ sigSt c (d :: l))
      ⊢ iprop((sigSt c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS a) k) Q) := by
  subst hn
  unfold sigSt owesE
  iintro ⟨#HR, ⟨%W, HO⟩, Hl⟩ Hk
  ihave Hl := (Entails.of_eq (allOf_cons _ _ _)) $$ Hl
  icases Hl with ⟨Hd, Hl⟩
  unfold sigRes
  icases Hd with ⟨Ht, Hp⟩
  iapply (Rounds.wp_signal 𝒱₀ ER (sched m) (c : Thread nD τ) none (dst := (nx c d : Thread nD τ)) (κ := K (nx c d, .inl ()))
      (d := c) (mem_bar m _ _ (fun e => nx_ne c d hd e.symm)) ((amount_bar m (nx c d) c).trans ha) () (oweS c l) (by subst ha; rfl)) $$ [HO Ht Hp]
  · isplitr; · iapply (records_inv m K (nx c d) (.inl ())); iexact HR
    isplitl [HO]; · iexact HO
    isplitl [Ht]; · iexact Ht
    isplitl [Hp]; · rw [payload_bar]; iexact Hp
    iapply (records_reached m K (nx c d) (.inl ())); iexact HR
  iintro HO
  iapply Hk
  isplitl [HO]; · iexists W; iexact HO
  iexact Hl

/-- The wait for the seven signals: of each other device, its row `c`. -/
theorem step_barrier (c : Dev nD) {a : ℕ} (ha : 7 = a) {α : Type} {Q : α → sProp 𝕄} {k : PUnit → Prog (TpuEff nD τ sig (Elt F) Λ₀ .tc) α} :
    iprop(records m K ∗ levAts L lv ∗ owesE c (oweR c slots) ∗ cred (tallyAt (barCell c) () 7) ∗ atPos ER (barCell c) 0 ∅ 0)
      ⊢ iprop(((owesE c (oweR c slots) ∗ allOf (fun d => barPay c (nx c d)) steps ∗ semVal (barCell c) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  unfold owesE
  iintro ⟨#HR, #Hlev, ⟨%W, HO⟩, Hc, Hat⟩ Hk
  iapply (Rounds.wp_wait_rest_token 𝒱₀ ER (sched m) (c : Thread nD τ) none (κ := K (c, .inl ()))
      (wpE_semWait_eq 𝒱₀ (c : Thread nD τ) none Set.univ) (Set.mem_univ _) () (O := oweR c slots) (W := W) (R := 0) (m := 0) (T := ∅)
      (by rw [expect_bar])) $$ [HO Hc Hat]
  · isplitr; · iapply (records_inv m K c (.inl ())); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (sched m) (Set.mem_univ (K (c, .inl ()))) (fun h => h) (R := 0 + 1) (duties_later m (barCell c))) $$ [Hat] with Hz
  · isplitr; · iapply (records_inv m K c (.inl ())); iexact HR
    iexact Hat
  iapply Hk
  isplitl [HO]; · iexists _; iexact HO
  isplitl [Hp]; · iexact Hp
  iexact Hz

/-! ## Sending -/

/-- To make transfer `p`: the row it writes, its duties at both ends. -/
def sendRes (c : Dev nD) (p : Fin 2 × Fin 8) : sProp 𝕄 :=
  iprop((∃ f, rowPts (nx c p.2) c p.1 fullShare f) ∗ dutyTok ER (sendCell c p) 0 0 ∗ dutyTok ER (recvCell (nx c p.2) (p.1, c)) 0 0)
/-- The shares of the own half row `h` for the transfers `ds`. -/
def srcs (c : Dev nD) (h : Fin 2) (ds : List (Fin 8)) : sProp 𝕄 := allOf (fun d => rowPts c c h (shr d) (acc m)) ds
/-- Transfers `l` are still to be made, the shares for those of half `h` being at hand; `done` are under way. -/
def sendSt (c : Dev nD) (l : List (Fin 2 × Fin 8)) (h : Fin 2) (ds : List (Fin 8)) (done : List (Fin 2 × Fin 8)) : sProp 𝕄 :=
  iprop(owesE c (oweR c l) ∗ allOf (sendRes c) l ∗ srcs m c h ds ∗ allOf (fun p => cred (tallyAt (sendCell c p) () N)) done)

/-- The half row at an offset, as a transfer names it; a semaphore of either array at an index. -/
theorem rowAt_eq {s : Dev nD} {h : Fin 2} {off : Fin 3 → ℕ} {inb : ∀ a, off a + S1x8x128.size a ≤ S8x16x128.size a} (ho : off = ![s.val, 8 * h.val, 0]) :
    ((aM).slice (Rect.unit (s := S8x16x128) off S1x8x128.size inb) (fun _ => rfl)).squeeze S8x128 squeezes_S1x8x128_S8x128 = rowM s h := by subst ho; rfl
/-- The send semaphore that the program names by its offsets, -/
theorem sendAt_eq {p : Fin 2 × Fin 8} {off : Fin 2 → ℕ} {inb : ∀ a, off a + S1x1.size a ≤ S2x8.size a} (ho : off = ![p.1.val, p.2.val]) :
    ((cc0_scratch1.slice (Rect.unit (s := S2x8) off S1x1.size inb)).squeeze S_ squeezes_S1x1_S_).sem = sendS p := by subst ho; rfl
/-- and the receive semaphore. -/
theorem recvAt_eq {p : Fin 2 × Fin 8} {off : Fin 2 → ℕ} {inb : ∀ a, off a + S1x1.size a ≤ S2x8.size a} (ho : off = ![p.1.val, p.2.val]) :
    ((cc0_scratch2.slice (Rect.unit (s := S2x8) off S1x1.size inb)).squeeze S_ squeezes_S1x1_S_).sem = recvS p := by subst ho; rfl

/-- The library's rule for a remote transfer at these cells: half row `h` of `c`, from the share `q` of its own buffer into
    the same row of the buffer of the device `d` steps on. -/
theorem wp_send_row (c n : Dev nD) (h : Fin 2) (d : Fin 8) (hd : d ≠ 0) (hn : n = nx c d) {src dst : Memref sig .tc .vmem S8x128 .f32} (hs : src = rowM c h) (ht : dst = rowM c h)
    {sS rS : DmaSem sig} (hS : sS = sendS (h, d)) (hR : rS = recvS (h, c))
    {hsc : (dst : Memref sig (Dev.tc n : Thread nD τ).2.kind .vmem S8x128 .f32).view.ref.isScScratch = false}
    {hsrc : src.view.WordExact} {hdst : dst.view.WordExact}
    {hsem : DmaTarget.Typed .vmem (.dma rS) (.remote (Dev.tc n : Thread nD τ) dst (.dma sS) hsc)}
    {α : Type} {Q : α → sProp 𝕄} {k : PUnit → Prog (TpuEff nD τ sig (Elt F) Λ₀ .tc) α} (O : CellTallies nD τ sig Unit) (W : Waits sig Unit)
    (fd : S8x16x128.Idx → Elt F .f32) :
    iprop(cellInv ER (sched m) (K (c, .inr (.inl (h, d)))) (sendCell c (h, d)) ∗ cellInv ER (sched m) (K (nx c d, .inr (.inr (h, c)))) (recvCell (nx c d) (h, c))
        ∗ rowPts c c h (shr d) (acc m) ∗ rowPts (nx c d) c h fullShare fd
        ∗ owes (c : Thread nD τ) (O + tallyAt (recvCell (nx c d) (h, c)) () N) W
        ∗ dutyTok ER (sendCell c (h, d)) 0 0 ∗ reached ER (sendCell c (h, d)) 0
        ∗ dutyTok ER (recvCell (nx c d) (h, c)) 0 0 ∗ reached ER (recvCell (nx c d) (h, c)) 0)
      ⊢ iprop(((cred (tallyAt (sendCell c (h, d)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma rS) hsrc hdst hsem) k) Q) := by
  subst hn hs ht hS hR
  unfold rowPts
  rw [← rowM_set c h]
  exact Rounds.wp_send_pointsTo 𝒱₀ ER (sched m) (c : Thread nD τ) none (c' := (nx c d : Thread nD τ)) (src := rowM c h) (dst := rowM c h) (κ₁ := K (c, .inr (.inl (h, d)))) (κ₂ := K (nx c d, .inr (.inr (h, c))))
    (r₁ := 0) (r₂ := 0) (d₁ := 0) (d₂ := 0) (fd := fd)
    (by rw [duties_send m c (h, d) hd]; exact Finset.mem_singleton_self _)
    (by rw [duties_recv m (nx c d) (h, c) (fun e => nx_ne c d hd e.symm)]; exact Finset.mem_singleton_self _)
    () () N rfl (amount_send m c (h, d) 0) (amount_recv m (nx c d) (h, c) 0) O rfl (W := W)
    (by rw [payload_send m c (h, d) 0]; unfold rowPts; rw [← rowM_set])
    (by
      rw [payload_recv m (nx c d) (h, c) 0]; unfold rowPts; rw [← rowM_set]
      exact Entails.of_eq (pointsTo_congr fun i hi => landed_eq c h fd (acc m) i (by rw [← rowM_set]; exact hi)))

/-- One transfer: a share of the own half row and the target's half row go with it, one debt fewer, and a credit for its send cell. -/
theorem step_send (c n : Dev nD) (h : Fin 2) (d : Fin 8) (hd : d ≠ 0) (l : List (Fin 2 × Fin 8)) (ds : List (Fin 8)) (done : List (Fin 2 × Fin 8)) (hn : n = nx c d)
    {src dst : Memref sig .tc .vmem S8x128 .f32} (hs : src = rowM c h) (ht : dst = rowM c h) {sS rS : DmaSem sig} (hS : sS = sendS (h, d)) (hR : rS = recvS (h, c))
    {hsc : (dst : Memref sig (Dev.tc n : Thread nD τ).2.kind .vmem S8x128 .f32).view.ref.isScScratch = false}
    {hsrc : src.view.WordExact} {hdst : dst.view.WordExact}
    {hsem : DmaTarget.Typed .vmem (.dma rS) (.remote (Dev.tc n : Thread nD τ) dst (.dma sS) hsc)}
    {α : Type} {Q : α → sProp 𝕄} {k : PUnit → Prog (TpuEff nD τ sig (Elt F) Λ₀ .tc) α} :
    iprop(records m K ∗ sendSt m c ((h, d) :: l) h (d :: ds) done)
      ⊢ iprop((sendSt m c l h ds ((h, d) :: done) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma rS) hsrc hdst hsem) k) Q) := by
  unfold sendSt owesE
  iintro ⟨#HR, ⟨%W, HO⟩, Hl, Hs, Hd⟩ Hk
  ihave Hl := (Entails.of_eq (allOf_cons _ _ _)) $$ Hl
  icases Hl with ⟨Hp, Hl⟩
  unfold srcs
  ihave Hs := (Entails.of_eq (allOf_cons _ _ _)) $$ Hs
  icases Hs with ⟨Hsrc, Hs⟩
  unfold sendRes
  icases Hp with ⟨⟨%fd, Hdst⟩, Ht1, Ht2⟩
  iapply (wp_send_row m K c n h d hd hn hs ht hS hR (oweR c l) W fd) $$ [HO Hsrc Hdst Ht1 Ht2]
  · isplitr; · iapply (records_inv m K c (.inr (.inl (h, d)))); iexact HR
    isplitr; · iapply (records_inv m K (nx c d) (.inr (.inr (h, c)))); iexact HR
    isplitl [Hsrc]; · iexact Hsrc
    isplitl [Hdst]; · iexact Hdst
    isplitl [HO]; · iexact HO
    isplitl [Ht1]; · iexact Ht1
    isplitr; · iapply (records_reached m K c (.inr (.inl (h, d)))); iexact HR
    isplitl [Ht2]; · iexact Ht2
    iapply (records_reached m K (nx c d) (.inr (.inr (h, c)))); iexact HR
  iintro ⟨Hcr, HO⟩
  iapply Hk
  isplitl [HO]; · iexists W; iexact HO
  isplitl [Hl]; · iexact Hl
  isplitl [Hs]; · iexact Hs
  rw [allOf_cons]
  isplitl [Hcr]; · iexact Hcr
  iexact Hd

/-! ## Waiting for what the others send -/

/-- To wait on a receive cell: the position, the credit; afterwards: the half row, landed, and the cell's counter back. -/
def recvRes (c : Dev nD) (h : Fin 2) (d : Fin 8) : sProp 𝕄 :=
  iprop(atPos ER (recvCell c (h, bk c d)) 0 ∅ 0 ∗ cred (tallyAt (recvCell c (h, bk c d)) () N))
/-- After the wait on a receive cell: the half row, landed, and the counter. -/
def recvDone (c : Dev nD) (h : Fin 2) (d : Fin 8) : sProp 𝕄 :=
  iprop(rowPts c (bk c d) h fullShare (acc m) ∗ semVal (recvCell c (h, bk c d)) 0)
/-- The half rows `h` from the devices `l` steps before `c` are still to be waited for, those from `done` are in. -/
def recvSt (c : Dev nD) (h : Fin 2) (l done : List (Fin 8)) : sProp 𝕄 :=
  iprop(owesE c 0 ∗ allOf (recvRes c h) l ∗ allOf (recvDone m c h) done)

/-- One wait on a receive cell: the half row of the device `d` steps before is in. -/
theorem step_recv (c : Dev nD) (h : Fin 2) (d : Fin 8) (hd : d ≠ 0) (l done : List (Fin 8))
    {sm : DmaSem sig} (hR : sm = recvS (h, bk c d)) {src dst : Memref sig .tc .vmem S8x128 .f32} (hN : dst.view.dmaCredit = N)
    {hsrc : src.view.WordExact} {hdst : dst.view.WordExact}
    {α : Type} {Q : α → sProp 𝕄} {k : PUnit → Prog (TpuEff nD τ sig (Elt F) Λ₀ .tc) α} :
    iprop(records m K ∗ recvSt m c h (d :: l) done)
      ⊢ iprop((recvSt m c h l (d :: done) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hR
  unfold recvSt owesE
  iintro ⟨#HR, ⟨%W, HO⟩, Hl, Hd⟩ Hk
  ihave Hl := (Entails.of_eq (allOf_cons _ _ _)) $$ Hl
  icases Hl with ⟨Hp, Hl⟩
  unfold recvRes
  icases Hp with ⟨Hat, Hc⟩
  iapply (Rounds.wp_wait_rest_token 𝒱₀ ER (sched m) (c : Thread nD τ) none (κ := K (c, .inr (.inr (h, bk c d))))
      (wpE_waitDma2_eq 𝒱₀ (c : Thread nD τ) none Set.univ) (Set.mem_univ _) () (O := 0) (W := W) (R := 0) (m := 0) (T := ∅)
      (by rw [expect_recv m c (h, bk c d) (bk_ne c d hd), Nat.zero_add]; try exact hN)) $$ [HO Hat Hc]
  · isplitr; · iapply (records_inv m K c (.inr (.inr (h, bk c d)))); iexact HR
    isplitl [Hc]; · rw [show dst.view.dmaCredit = N from hN]; iexact Hc
    isplitl [HO]; · iexact HO
    isplitr; · rw [MayWait_zero]; iempintro
    iexact Hat
  iintro ⟨HO, Hat, -, Hpay⟩
  ihave Hp := (Entails.of_eq (rest_recv m c (h, bk c d) (bk_ne c d hd))) $$ Hpay
  imod (Rounds.cell_close ER (sched m) (Set.mem_univ (K (c, .inr (.inr (h, bk c d))))) (fun h => h) (R := 0 + 1) (duties_later m (recvCell c (h, bk c d)))) $$ [Hat] with Hz
  · isplitr; · iapply (records_inv m K c (.inr (.inr (h, bk c d)))); iexact HR
    iexact Hat
  iapply Hk
  isplitl [HO]; · iexists _; iexact HO
  isplitl [Hl]; · iexact Hl
  rw [allOf_cons]
  isplitl [Hp Hz]
  · unfold recvDone
    isplitl [Hp]; · iexact Hp
    iexact Hz
  iexact Hd

/-! ## Waiting for the own transfers -/

/-- To wait on a send cell; afterwards: the share the transfer read, and the cell's counter back. -/
def waitRes (c : Dev nD) (p : Fin 2 × Fin 8) : sProp 𝕄 := iprop(atPos ER (sendCell c p) 0 ∅ 0 ∗ cred (tallyAt (sendCell c p) () N))
/-- After the wait on a send cell: the share back, and the counter. -/
def waitDone (c : Dev nD) (p : Fin 2 × Fin 8) : sProp 𝕄 := iprop(rowPts c c p.1 (shr p.2) (acc m) ∗ semVal (sendCell c p) 0)
/-- The own transfers `l` are still to be waited for, those of `done` are over. -/
def waitSt (c : Dev nD) (l done : List (Fin 2 × Fin 8)) : sProp 𝕄 := iprop(owesE c 0 ∗ allOf (waitRes c) l ∗ allOf (waitDone m c) done)

/-- One wait on a send cell: the share is back. -/
theorem step_wait (c : Dev nD) (p : Fin 2 × Fin 8) (hd : p.2 ≠ 0) (l done : List (Fin 2 × Fin 8))
    {sm : DmaSem sig} (hS : sm = sendS p) {src dst : Memref sig .tc .vmem S8x128 .f32} (hN : dst.view.dmaCredit = N)
    {hsrc : src.view.WordExact} {hdst : dst.view.WordExact}
    {α : Type} {Q : α → sProp 𝕄} {k : PUnit → Prog (TpuEff nD τ sig (Elt F) Λ₀ .tc) α} :
    iprop(records m K ∗ waitSt m c (p :: l) done)
      ⊢ iprop((waitSt m c l (p :: done) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hS
  unfold waitSt owesE
  iintro ⟨#HR, ⟨%W, HO⟩, Hl, Hd⟩ Hk
  ihave Hl := (Entails.of_eq (allOf_cons _ _ _)) $$ Hl
  icases Hl with ⟨Hp, Hl⟩
  unfold waitRes
  icases Hp with ⟨Hat, Hc⟩
  iapply (Rounds.wp_wait_rest_token 𝒱₀ ER (sched m) (c : Thread nD τ) none (κ := K (c, .inr (.inl p)))
      (wpE_waitDma2_eq 𝒱₀ (c : Thread nD τ) none Set.univ) (Set.mem_univ _) () (O := 0) (W := W) (R := 0) (m := 0) (T := ∅)
      (by rw [expect_send m c p hd, Nat.zero_add]; try exact hN)) $$ [HO Hat Hc]
  · isplitr; · iapply (records_inv m K c (.inr (.inl p))); iexact HR
    isplitl [Hc]; · rw [show dst.view.dmaCredit = N from hN]; iexact Hc
    isplitl [HO]; · iexact HO
    isplitr; · rw [MayWait_zero]; iempintro
    iexact Hat
  iintro ⟨HO, Hat, -, Hpay⟩
  ihave Hp := (Entails.of_eq (rest_send m c p hd)) $$ Hpay
  imod (Rounds.cell_close ER (sched m) (Set.mem_univ (K (c, .inr (.inl p)))) (fun h => h) (R := 0 + 1) (duties_later m (sendCell c p))) $$ [Hat] with Hz
  · isplitr; · iapply (records_inv m K c (.inr (.inl p))); iexact HR
    iexact Hat
  iapply Hk
  isplitl [HO]; · iexists _; iexact HO
  isplitl [Hl]; · iexact Hl
  rw [allOf_cons]
  isplitl [Hp Hz]
  · unfold waitDone
    isplitl [Hp]; · iexact Hp
    iexact Hz
  iexact Hd

/-- A cell with no duties from round 0 on closes where it stands. -/
theorem close_unused (c : Dev nD) (k : Ck) (h : ∀ r, 0 ≤ r → (sched (F := F) m).duties (kcell (c, k)) r = ∅) :
    iprop(records m K ∗ atPos ER (kcell (c, k)) 0 ∅ 0) ⊢ |={Set.univ}=> semVal (kcell (c, k)) 0 := by
  iintro ⟨#HR, Hat⟩
  iapply (Rounds.cell_close ER (sched m) (Set.mem_univ (K (c, k))) (fun h => h) (R := 0) h)
  isplitr; · iapply (records_inv m K c k); iexact HR
  iexact Hat

end Cert.Exch
-- ==== Proof.Rows.lean ====
/-
# Taking the landing buffer apart and putting it together; the result as an array

The landing buffer is its two halves, a half its eight rows, a row held in full its eight shares. A device's result is
written in four blocks of 512 rows; together they cover it.
-/
module

public import proofs.«01_k».proof.Proof.Steps

@[expose] public section

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Device `c`'s half `h`, all rows. -/
def halfPts (c : Dev nD) (h : Fin 2) (q : PosShare TreeShare) (f : S8x16x128.Idx → Elt F .f32) : sProp 𝕄 :=
  (((c : Thread nD τ).loc cc0_scratch0) ↦[halfSet h]{q} f : sProp 𝕄)
/-- The seven shares of a half row beside the first. -/
def restPts (c s : Dev nD) (h : Fin 2) (f : S8x16x128.Idx → Elt F .f32) : sProp 𝕄 := allOf (fun d => rowPts c s h (shr d) f) steps

omit [FloatOps F] in
/-- A half of the buffer is its eight half rows; -/
theorem halfPts_eq (c : Dev nD) (h : Fin 2) (q) (f : S8x16x128.Idx → Elt F .f32) :
    (halfPts c h q f : sProp 𝕄) = bigSep Finset.univ fun s => rowPts c s h q f := by
  unfold halfPts halfSet rowPts
  exact pointsTo_biUnion (ℓ := (c : Thread nD τ).loc cc0_scratch0) (Finset.univ : Finset (Dev nD)) (fun s => rowSet s h) (rows_disjoint h)

omit [FloatOps F] in
/-- the buffer is its two halves; -/
theorem buffer_eq (c : Dev nD) (q) (f : S8x16x128.Idx → Elt F .f32) :
    (((c : Thread nD τ).loc cc0_scratch0) ↦{q} f : sProp 𝕄) = iprop(halfPts c 0 q f ∗ halfPts c 1 q f) := by
  unfold halfPts
  have h := pointsTo_union (ℓ := (c : Thread nD τ).loc cc0_scratch0) (q := q) (f := f) (Ix := Unit) (Name := ℕ) (U := UU) (Lvl := ℕ) halves_disjoint
  rw [halves_univ] at h
  exact BI.Entails.antisymm h.1 h.2

omit [FloatOps F] in
/-- a half row is its first share and the seven others. -/
theorem rowPts_eq (c s : Dev nD) (h : Fin 2) (f : S8x16x128.Idx → Elt F .f32) :
    (rowPts c s h fullShare f : sProp 𝕄) = iprop(rowPts c s h (shr 0) f ∗ restPts c s h f) := by
  unfold restPts
  rw [← all_steps (fun d => rowPts c s h (shr d) f)]
  unfold rowPts shr
  exact ShareLeaves.pointsTo_leaves (ℓ := (c : Thread nD τ).loc cc0_scratch0) (rowSet s h) f 3 fullShare

omit [FloatOps F] in
/-- A half with all rows in full: the first share of all rows, and the other shares of the own and of the other rows. -/
theorem half_parts (c : Dev nD) (h : Fin 2) (f : S8x16x128.Idx → Elt F .f32) :
    (halfPts c h fullShare f : sProp 𝕄)
      = iprop(halfPts c h (shr 0) f ∗ restPts c c h f ∗ allOf (fun d => restPts c (bk c d) h f) steps) := by
  rw [halfPts_eq, bigSep_congr (fun s _ => rowPts_eq c s h f)]
  rw [show (bigSep Finset.univ fun s => iprop(rowPts c s h (shr 0) f ∗ restPts c s h f) : sProp 𝕄) = _ from bigSep_sep _ _ _,
    ← halfPts_eq, all_bk c (fun s => restPts c s h f)]
  rfl

omit [FloatOps F] in
/-- What a device has of a half once the other rows are in: the first share of everything, and the other rows' other shares. -/
theorem half_landed (c : Dev nD) (h : Fin 2) (f : S8x16x128.Idx → Elt F .f32) :
    iprop(rowPts c c h (shr 0) f ∗ allOf (fun d => rowPts c (bk c d) h fullShare f) steps)
      ⊢ iprop(halfPts c h (shr 0) f ∗ allOf (fun d => restPts c (bk c d) h f) steps : sProp 𝕄) := by
  rw [show (fun d => (rowPts c (bk c d) h fullShare f : sProp 𝕄)) = fun d => iprop(rowPts c (bk c d) h (shr 0) f ∗ restPts c (bk c d) h f) from
    funext fun d => rowPts_eq c (bk c d) h f, allOf_sep _ _ _ (by decide), halfPts_eq, all_bk c (fun s => rowPts c s h (shr 0) f)]
  iintro ⟨H1, H2, H3⟩
  isplitl [H1 H2]
  · isplitl [H1]; · iexact H1
    iexact H2
  iexact H3

omit [FloatOps F] in
/-- Over two lists one after the other: over one, and over the other. -/
theorem allOf_append {I : Type} (Φ : I → sProp 𝕄) : ∀ l l' : List I, allOf Φ (l ++ l') = iprop(allOf Φ l ∗ allOf Φ l')
  | [], l' => (equiv_iff.mp BI.emp_sep).symm
  | i :: l, l' => by
    rw [List.cons_append, allOf_cons, allOf_cons, allOf_append Φ l l']
    exact (equiv_iff.mp ⟨BI.sep_assoc, BI.sep_assoc'⟩).symm
omit [FloatOps F] in
/-- Over the images of a list's entries. -/
theorem allOf_map {I J : Type} (Φ : J → sProp 𝕄) (g : I → J) : ∀ l : List I, allOf Φ (l.map g) = allOf (fun i => Φ (g i)) l
  | [] => rfl
  | i :: l => by rw [List.map_cons, allOf_cons, allOf_cons, allOf_map Φ g l]
omit [FloatOps F] in
/-- Over the fourteen transfers: those of the first half, then those of the second. -/
theorem allOf_slots (Φ : Fin 2 × Fin 8 → sProp 𝕄) : allOf Φ slots = iprop(allOf (fun d => Φ (0, d)) steps ∗ allOf (fun d => Φ (1, d)) steps) := by
  rw [show slots = steps.map (fun d => ((0 : Fin 2), d)) ++ steps.map (fun d => ((1 : Fin 2), d)) from rfl, allOf_append, allOf_map, allOf_map]
omit [FloatOps F] in
/-- The order of the list does not matter. -/
theorem allOf_perm {I : Type} [DecidableEq I] (Φ : I → sProp 𝕄) (l l' : List I) (h : l.Nodup) (h' : l'.Nodup) (he : l.toFinset = l'.toFinset) :
    allOf Φ l = allOf Φ l' := by
  rw [allOf_eq _ _ h, allOf_eq _ _ h', he]

end Cert.Exch
-- ==== Proof.Out.lean ====
/-
# The result of a device, as an array

Four blocks of 512 rows, each computed from the statistics of its half of the rows, the input rows and the scale. The
four stores the program makes leave that array, whatever the result's buffer held.
-/
module

public import proofs.«01_k».proof.Proof.Rows

@[expose] public section

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The scale of device `c` as it is loaded, and as the payload the result reads. -/
abbrev gRow (c : Dev nD) : FVec F S1x1024 .f32 :=
  k0_pay2 ((gM).view.readAt (Elt F) (Rect.unit (s := S1024) ![0] S1024.size inb_S1024_S1024_0).toLoadRect (gIn m c))
/-- The partial sums of squares of all devices: for the first 1024 rows, and for the others. -/
abbrev aLo : Vec F S8x8x128 .f32 :=
  (aM).view.readAt (Elt F) (Rect.unit (s := S8x16x128) ![0, 0, 0] S8x8x128.size inb_S8x16x128_S8x8x128_0_0_0).toLoadRect (acc m)
/-- The same sums for the rows from 1024 on. -/
abbrev aHi : Vec F S8x8x128 .f32 :=
  (aM).view.readAt (Elt F) (Rect.unit (s := S8x16x128) ![0, 8, 0] S8x8x128.size inb_S8x16x128_S8x8x128_0_8_0).toLoadRect (acc m)
/-- The four blocks of 512 rows of the input. -/
abbrev xQ0 (c : Dev nD) : Vec F S512x1024 .f32 :=
  (xM).view.readAt (Elt F) (Rect.unit (s := S2048x1024) ![0, 0] S512x1024.size inb_S2048x1024_S512x1024_0_0).toLoadRect (xIn m c)
/-- Rows 512 to 1023 of the input, -/
abbrev xQ1 (c : Dev nD) : Vec F S512x1024 .f32 :=
  (xM).view.readAt (Elt F) (Rect.unit (s := S2048x1024) ![512, 0] S512x1024.size inb_S2048x1024_S512x1024_512_0).toLoadRect (xIn m c)
/-- rows 1024 to 1535, -/
abbrev xQ2 (c : Dev nD) : Vec F S512x1024 .f32 :=
  (xM).view.readAt (Elt F) (Rect.unit (s := S2048x1024) ![1024, 0] S512x1024.size inb_S2048x1024_S512x1024_1024_0).toLoadRect (xIn m c)
/-- and rows 1536 to 2047. -/
abbrev xQ3 (c : Dev nD) : Vec F S512x1024 .f32 :=
  (xM).view.readAt (Elt F) (Rect.unit (s := S2048x1024) ![1536, 0] S512x1024.size inb_S2048x1024_S512x1024_1536_0).toLoadRect (xIn m c)

/-- The four blocks of 512 rows of the result. -/
abbrev oQ0 (c : Dev nD) : FVec F S512x1024 .bf16 := k0_pay6 k0_pay1 (gRow m c) (aLo m) (xQ0 m c)
/-- Rows 512 to 1023 of the result, -/
abbrev oQ1 (c : Dev nD) : FVec F S512x1024 .bf16 := k0_pay7 (gRow m c) (k0_pay5 k0_pay1 (aLo m)) (xQ1 m c)
/-- rows 1024 to 1535, -/
abbrev oQ2 (c : Dev nD) : FVec F S512x1024 .bf16 := k0_pay9 k0_pay1 (gRow m c) (aHi m) (xQ2 m c)
/-- and rows 1536 to 2047. -/
abbrev oQ3 (c : Dev nD) : FVec F S512x1024 .bf16 := k0_pay11 (gRow m c) (k0_pay8 k0_pay1 (aHi m)) (k0_pay10 k0_pay1 (aHi m)) (xQ3 m c)

/-- Where an entry lies within its block of 512 rows. -/
def inQ (i : S2048x1024.Idx) : S512x1024.Idx := fun k => match k with
  | ⟨0, _⟩ => ⟨(i 0).val % 512, Nat.mod_lt _ (by decide)⟩
  | ⟨1, _⟩ => i 1

/-- The result of device `c`. -/
def outAt (c : Dev nD) : S2048x1024.Idx → Elt F .bf16 := fun i =>
  if (i 0).val / 512 = 3 then oQ3 m c (inQ i) else if (i 0).val / 512 = 2 then oQ2 m c (inQ i)
    else if (i 0).val / 512 = 1 then oQ1 m c (inQ i) else oQ0 m c (inQ i)

omit [FloatOps F] in
/-- A store of 512 rows at a multiple of 512: those rows are the vector's, the others as before. -/
theorem write_q (k : ℕ) {off : Fin 2 → ℕ} (inb : ∀ a, off a + S512x1024.size a ≤ S2048x1024.size a) (ho : off = ![512 * k, 0])
    (f : S2048x1024.Idx → Elt F .bf16) (w : S512x1024.Idx → Elt F .bf16) (i : S2048x1024.Idx) :
    ((oM).access (Rect.unit (s := S2048x1024) off S512x1024.size inb)).write (Elt F) f w Finset.univ i
      = if (i 0).val / 512 = k then w (inQ i) else f i := by
  subst ho
  by_cases hk : (i 0).val / 512 = k
  · rw [if_pos hk]
    have hi : i ∈ (Rect.unit (s := S2048x1024) ![512 * k, 0] S512x1024.size inb).set := by
      rw [Rect.mem_set_unit, Fin.forall_fin_succ, Fin.forall_fin_one]
      have h1 : (i 1).val < 1024 := (i 1).isLt
      show (512 * k ≤ (i 0).val ∧ (i 0).val < 512 * k + 512) ∧ (0 ≤ (i 1).val ∧ (i 1).val < 0 + 1024)
      omega
    obtain ⟨j, hj⟩ := (Rect.unit (s := S2048x1024) ![512 * k, 0] S512x1024.size inb).toLoadRect.exists_idx_of_mem hi
    have e : inQ i = j := by
      have j0 : (j 0).val < 512 := (j 0).isLt
      have e0 : (i 0).val = 512 * k + (j 0).val := by rw [← hj]; show 512 * k + 1 * (j 0).val = _; omega
      have e1 : (i 1).val = (j 1).val := by rw [← hj]; show 0 + 1 * (j 1).val = _; omega
      funext a
      match a with
      | ⟨0, _⟩ => exact Fin.ext (by show (i 0).val % 512 = (j 0).val; omega)
      | ⟨1, _⟩ => exact Fin.ext e1
    rw [e, ← hj]
    exact View.write_emb_of_mem (v := (oM).access (Rect.unit (s := S2048x1024) ![512 * k, 0] S512x1024.size inb)) _ _ (Finset.mem_univ j)
  · rw [if_neg hk]
    refine View.write_of_not_mem _ _ _ ?_
    intro hi
    have hi : i ∈ (Rect.unit (s := S2048x1024) ![512 * k, 0] S512x1024.size inb).set := by
      have h2 : i ∈ ((View.whole cc0_stg2_0).slice (Rect.unit (s := S2048x1024) ![512 * k, 0] S512x1024.size inb)).set := by
        rwa [View.setOn_univ] at hi
      rw [View.set_slice_whole] at h2; exact h2
    rw [Rect.mem_set_unit, Fin.forall_fin_succ, Fin.forall_fin_one] at hi
    have h : 512 * k ≤ (i 0).val ∧ (i 0).val < 512 * k + 512 := hi.1
    omega

/-- The four stores leave the result. -/
theorem writes_out (c : Dev nD) (f : S2048x1024.Idx → Elt F .bf16) :
    ((oM).access (Rect.unit (s := S2048x1024) ![1536, 0] S512x1024.size inb_S2048x1024_S512x1024_1536_0)).write (Elt F)
      (((oM).access (Rect.unit (s := S2048x1024) ![1024, 0] S512x1024.size inb_S2048x1024_S512x1024_1024_0)).write (Elt F)
        (((oM).access (Rect.unit (s := S2048x1024) ![512, 0] S512x1024.size inb_S2048x1024_S512x1024_512_0)).write (Elt F)
          (((oM).access (Rect.unit (s := S2048x1024) ![0, 0] S512x1024.size inb_S2048x1024_S512x1024_0_0)).write (Elt F) f (oQ0 m c) Finset.univ)
          (oQ1 m c) Finset.univ) (oQ2 m c) Finset.univ) (oQ3 m c) Finset.univ = outAt m c := by
  funext i
  have h0 : (i 0).val < 2048 := (i 0).isLt
  rw [write_q 3 _ rfl, write_q 2 _ rfl, write_q 1 _ rfl, write_q 0 _ rfl]
  unfold outAt
  have hq : (i 0).val / 512 = 0 ∨ (i 0).val / 512 = 1 ∨ (i 0).val / 512 = 2 ∨ (i 0).val / 512 = 3 := by omega
  rcases hq with h | h | h | h <;> rw [h] <;> rfl

end Cert.Exch
-- ==== Proof.Parts.lean ====
/-
# The parts of the program

The program is printed in parts; for each part that signals, sends or waits, what it takes and what it leaves.
-/
module

public import proofs.«01_k».proof.Proof.Out

@[expose] public section

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A program on device `c` run to a postcondition. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

omit [FloatOps F] in
/-- An entailment from two assertions, one at a time. -/
theorem cur {P Q R : sProp 𝕄} (h : iprop(P ∗ Q) ⊢ R) : P ⊢ iprop(Q -∗ R) := by
  iintro H1 H2
  iapply h
  isplitl [H1]; · iexact H1
  iexact H2

/-- The device a program names by its number. -/
theorem dev_at {c : Dev nD} {d : Fin 8} {v : ℕ} {hv : v < nD} (h : v = (c.val + d.val) % 8) : (⟨v, hv⟩ : Dev nD) = nx c d := Fin.ext h

variable (K : Dev nD × Ck → ℕ)

/-! ## Offsets and counts, as the program computes them -/

/-- The receive semaphore that the wait for a first half names, -/
theorem off7_at (c : Dev nD) (r : Fin 7) : k0_off7 c (BitVec.ofNat 32 (1 + r.val)) = ![(0 : Fin 2).val, (bk c r.succ).val] := by
  rw [k0_off7_eq]; revert c r; decide
/-- and for a second half. -/
theorem off9_at (c : Dev nD) (r : Fin 7) : k0_off9 c (BitVec.ofNat 32 (1 + r.val)) = ![(1 : Fin 2).val, (bk c r.succ).val] := by
  rw [k0_off9_eq]; revert c r; decide
/-- A half row's transfer signals `N`. -/
theorem credit_row {off : Fin 3 → ℕ} {inb : ∀ a, off a + S1x8x128.size a ≤ S8x16x128.size a} :
    (((aM).slice (Rect.unit (s := S8x16x128) off S1x8x128.size inb) (fun _ => rfl)).squeeze S8x128 squeezes_S1x8x128_S8x128).view.dmaCredit = N := rfl

/-! ## Loads and stores of the landing buffer, of the input, of the result -/

/-- The input, the scale and the result in their buffers. -/
def xPts (c : Dev nD) : sProp 𝕄 := (((c : Thread nD τ).loc cc0_stg0_0) ↦{fullShare} (xIn m c : S2048x1024.Idx → Elt F .f32) : sProp 𝕄)
/-- The scale in its buffer, -/
def gPts (c : Dev nD) : sProp 𝕄 := (((c : Thread nD τ).loc cc0_stg1_0) ↦{fullShare} (gIn m c : S1024.Idx → Elt F .f32) : sProp 𝕄)
/-- and the result in its. -/
def oPts (c : Dev nD) (f : S2048x1024.Idx → Elt F .bf16) : sProp 𝕄 := (((c : Thread nD τ).loc cc0_stg2_0) ↦{fullShare} f : sProp 𝕄)

/-- A load of the input reads it and keeps it; -/
theorem x_load (c : Dev nD) {r : LoadRect S2048x1024} {hl} {α : Type} {Q : α → sProp 𝕄} {k : (r.shape.Idx → Elt F .f32) → Prog (TpuEff nD τ sig (Elt F) Λ₀ .tc) α} :
    xPts m c ⊢ iprop((xPts m c -∗ run c (k ((xM).view.readAt (Elt F) r (xIn m c))) Q) -∗ run c (.op (.load xM r hl) k) Q) := by
  unfold xPts run
  exact wp_load 𝒱₀ (c : Thread nD τ) none Set.univ (m := xM) (Finset.subset_univ _)
/-- a load of the scale likewise, -/
theorem g_load (c : Dev nD) {r : LoadRect S1024} {hl} {α : Type} {Q : α → sProp 𝕄} {k : (r.shape.Idx → Elt F .f32) → Prog (TpuEff nD τ sig (Elt F) Λ₀ .tc) α} :
    gPts m c ⊢ iprop((gPts m c -∗ run c (k ((gM).view.readAt (Elt F) r (gIn m c))) Q) -∗ run c (.op (.load gM r hl) k) Q) := by
  unfold gPts run
  exact wp_load 𝒱₀ (c : Thread nD τ) none Set.univ (m := gM) (Finset.subset_univ _)
/-- and one of the result's buffer. -/
theorem o_load (c : Dev nD) (f : S2048x1024.Idx → Elt F .bf16) {r : LoadRect S2048x1024} {hl} {α : Type} {Q : α → sProp 𝕄} {k : (r.shape.Idx → Elt F .bf16) → Prog (TpuEff nD τ sig (Elt F) Λ₀ .tc) α} :
    oPts c f ⊢ iprop((oPts c f -∗ run c (k ((oM).view.readAt (Elt F) r f)) Q) -∗ run c (.op (.load oM r hl) k) Q) := by
  unfold oPts run
  exact wp_load 𝒱₀ (c : Thread nD τ) none Set.univ (m := oM) (Finset.subset_univ _)
/-- A store into the result's buffer writes it. -/
theorem o_store (c : Dev nD) (f : S2048x1024.Idx → Elt F .bf16) {r : Rect S2048x1024} {w : r.shape.Idx → Elt F .bf16} {hx hm} {α : Type} {Q : α → sProp 𝕄} {k : PUnit → Prog (TpuEff nD τ sig (Elt F) Λ₀ .tc) α} :
    oPts c f ⊢ iprop((oPts c (((oM).access r).write (Elt F) f w Finset.univ) -∗ run c (k ⟨⟩) Q) -∗ run c (.op (.store oM r w Finset.univ hx hm) k) Q) := by
  unfold oPts run
  exact wp_store 𝒱₀ (c : Thread nD τ) none Set.univ (m := oM) (r := r) (Mk := Finset.univ) (Finset.subset_univ _)

/-- A load of the own half row; a store of it, which makes it what `acc` says. -/
theorem row_load (c : Dev nD) (h : Fin 2) (f : S8x16x128.Idx → Elt F .f32) {off : Fin 3 → ℕ} {inb : ∀ a, off a + S1x8x128.size a ≤ S8x16x128.size a} (ho : off = ![c.val, 8 * h.val, 0]) {hl}
    {α : Type} {Q : α → sProp 𝕄} {k : (S1x8x128.Idx → Elt F .f32) → Prog (TpuEff nD τ sig (Elt F) Λ₀ .tc) α} :
    rowPts c c h fullShare f ⊢ iprop((rowPts c c h fullShare f -∗ run c (k ((aM).view.readAt (Elt F) (Rect.unit (s := S8x16x128) off S1x8x128.size inb).toLoadRect f)) Q)
      -∗ run c (.op (.load aM (Rect.unit (s := S8x16x128) off S1x8x128.size inb).toLoadRect hl) k) Q) := by
  subst ho
  unfold rowPts run
  exact wp_load_rect 𝒱₀ (c : Thread nD τ) none Set.univ (m := aM) (r := Rect.unit (s := S8x16x128) ![c.val, 8 * h.val, 0] S1x8x128.size inb) (by rw [access_set c h])
/-- The store of the first half row leaves what `acc` says there, -/
theorem row_store_lo (c : Dev nD) (f : S8x16x128.Idx → Elt F .f32) {off : Fin 3 → ℕ} {inb : ∀ a, off a + S1x8x128.size a ≤ S8x16x128.size a} (ho : off = ![c.val, 8 * (0 : Fin 2).val, 0]) {hx hm}
    {α : Type} {Q : α → sProp 𝕄} {k : PUnit → Prog (TpuEff nD τ sig (Elt F) Λ₀ .tc) α} :
    rowPts c c 0 fullShare f ⊢ iprop((rowPts c c 0 fullShare (acc m) -∗ run c (k ⟨⟩) Q)
      -∗ run c (.op (.store aM (Rect.unit (s := S8x16x128) off S1x8x128.size inb) (k0_pay3 (xLo m c)) Finset.univ hx hm) k) Q) := by
  subst ho
  rw [show (rowPts c c 0 fullShare (acc m) : sProp 𝕄) = _ from (pointsTo_congr (fun i hi => acc_lo m f c i hi)).symm]
  unfold rowPts run
  exact wp_store 𝒱₀ (c : Thread nD τ) none Set.univ (m := aM) (r := Rect.unit (s := S8x16x128) ![c.val, 8 * (0 : Fin 2).val, 0] S1x8x128.size inb) (Mk := Finset.univ)
    (by rw [View.setOn_univ, access_set c 0])
/-- and so does the store of the second. -/
theorem row_store_hi (c : Dev nD) (f : S8x16x128.Idx → Elt F .f32) {off : Fin 3 → ℕ} {inb : ∀ a, off a + S1x8x128.size a ≤ S8x16x128.size a} (ho : off = ![c.val, 8 * (1 : Fin 2).val, 0]) {hx hm}
    {α : Type} {Q : α → sProp 𝕄} {k : PUnit → Prog (TpuEff nD τ sig (Elt F) Λ₀ .tc) α} :
    rowPts c c 1 fullShare f ⊢ iprop((rowPts c c 1 fullShare (acc m) -∗ run c (k ⟨⟩) Q)
      -∗ run c (.op (.store aM (Rect.unit (s := S8x16x128) off S1x8x128.size inb) (k0_pay4 (xHi m c)) Finset.univ hx hm) k) Q) := by
  subst ho
  rw [show (rowPts c c 1 fullShare (acc m) : sProp 𝕄) = _ from (pointsTo_congr (fun i hi => acc_hi m f c i hi)).symm]
  unfold rowPts run
  exact wp_store 𝒱₀ (c : Thread nD τ) none Set.univ (m := aM) (r := Rect.unit (s := S8x16x128) ![c.val, 8 * (1 : Fin 2).val, 0] S1x8x128.size inb) (Mk := Finset.univ)
    (by rw [View.setOn_univ, access_set c 1])

/-- A load of a half of the landing buffer, at any share of it. -/
theorem half_load (c : Dev nD) (h : Fin 2) (q) (f : S8x16x128.Idx → Elt F .f32) {off : Fin 3 → ℕ} {inb : ∀ a, off a + S8x8x128.size a ≤ S8x16x128.size a} (ho : off = ![0, 8 * h.val, 0]) {hl}
    {α : Type} {Q : α → sProp 𝕄} {k : (S8x8x128.Idx → Elt F .f32) → Prog (TpuEff nD τ sig (Elt F) Λ₀ .tc) α} :
    halfPts c h q f ⊢ iprop((halfPts c h q f -∗ run c (k ((aM).view.readAt (Elt F) (Rect.unit (s := S8x16x128) off S8x8x128.size inb).toLoadRect f)) Q)
      -∗ run c (.op (.load aM (Rect.unit (s := S8x16x128) off S8x8x128.size inb).toLoadRect hl) k) Q) := by
  subst ho
  unfold halfPts run
  refine wp_load_rect 𝒱₀ (c : Thread nD τ) none Set.univ (m := aM) (r := Rect.unit (s := S8x16x128) ![0, 8 * h.val, 0] S8x8x128.size inb) ?_
  intro i hi
  have h2 : i ∈ ((View.whole cc0_scratch0).slice (Rect.unit (s := S8x16x128) ![0, 8 * h.val, 0] S8x8x128.size inb)).set := hi
  rw [View.set_slice_whole, Rect.mem_set_unit] at h2
  exact (mem_halfSet h i).mpr (h2 1)

/-- Half `h` complete on device `c`, beside its own row's other shares: and the receive counters back. -/
def gotHalf (c : Dev nD) (h : Fin 2) : sProp 𝕄 :=
  iprop(halfPts c h (shr 0) (acc m) ∗ allOf (fun d => restPts c (bk c d) h (acc m)) steps ∗ allOf (fun d => semVal (recvCell c (h, bk c d)) 0) steps)

/-- All seven half rows in, the half is complete. -/
theorem half_in (c : Dev nD) (h : Fin 2) :
    iprop(rowPts c c h (shr 0) (acc m) ∗ recvSt m c h [] [7, 6, 5, 4, 3, 2, 1]) ⊢ iprop(owesE c 0 ∗ gotHalf m c h) := by
  unfold recvSt gotHalf
  rw [allOf_perm (recvDone m c h) [7, 6, 5, 4, 3, 2, 1] steps (by decide) (by decide) (by decide)]
  rw [show (allOf (recvDone m c h) steps : sProp 𝕄) = _ from allOf_sep (fun d => rowPts c (bk c d) h fullShare (acc m)) (fun d => semVal (recvCell c (h, bk c d)) 0) steps (by decide)]
  iintro ⟨H0, HO, -, H1, H2⟩
  isplitl [HO]; · iexact HO
  ihave H := (half_landed c h (acc m)) $$ [H0 H1]
  · isplitl [H0]; · iexact H0
    iexact H1
  icases H with ⟨Ha, Hb⟩
  isplitl [Ha]; · iexact Ha
  isplitl [Hb]; · iexact Hb
  iexact H2

/-- A program that only returns runs to what holds already. -/
theorem run_ret {c : Dev nD} {α : Type} {a : α} {Q : α → sProp 𝕄} : Q a ⊢ run c (Prog.ret a) Q := by
  unfold run
  rw [wp_ret]
  iintro H
  imodintro
  iexact H

/-- Nothing owed any more, the waits for half `h` begin. -/
theorem recv_begin (c : Dev nD) (h : Fin 2) : iprop(owesE c 0 ∗ allOf (recvRes c h) steps) ⊢ recvSt m c h steps [] := by
  unfold recvSt
  iintro ⟨HO, H⟩
  isplitl [HO]; · iexact HO
  isplitl [H]; · iexact H
  iempintro

/-! ## The parts -/

/-- The signals to the first five devices after `c`. -/
theorem run_part1 (c : Dev nD)  {Q} :
    iprop(records m K ∗ sigSt c steps) ⊢ iprop((sigSt c [6, 7] -∗ ∀ v2 v24 x, Q ⟨c, v2, SemArray.scalar (sig.barrier 0 rfl), v24, x⟩)
      -∗ run c (k0_part1 (F := F) xM (Memref.isWhole_whole _) gM (Memref.isWhole_whole _) oM (Memref.isWhole_whole _) aM (Memref.isWhole_whole _) cc0_scratch1 cc0_scratch2) Q) := by
  rw [k0_part1_eq_skeleton]; unfold k0_part1_skel run
  simp only [semSignalWord, semWaitWord, Prog.lift, Prog.bind_op, Prog.bind_ret, Prog.pure_eq_ret, wp_deviceId]
  iintro ⟨#HR, H⟩ Hk
  iapply (cur (step_signal m K c _ 1 (by decide) _ (dev_at (k0_dev1_eq c)) rfl)) $$ HR H; iintro H
  iapply (cur (step_signal m K c _ 2 (by decide) _ (dev_at (k0_dev2_eq c)) rfl)) $$ HR H; iintro H
  iapply (cur (step_signal m K c _ 3 (by decide) _ (dev_at (k0_dev3_eq c)) rfl)) $$ HR H; iintro H
  iapply (cur (step_signal m K c _ 4 (by decide) _ (dev_at (k0_dev4_eq c)) rfl)) $$ HR H; iintro H
  iapply (cur (step_signal m K c _ 5 (by decide) _ (dev_at (k0_dev5_eq c)) rfl)) $$ HR H; iintro H
  rw [wp_ret]; imodintro
  iapply Hk $$ H

/-- The other two signals; the first half row computed and stored; the barrier's wait, which yields the rows to send into. -/
theorem run_part2 (c : Dev nD) (f : S8x16x128.Idx → Elt F .f32) (v2 v24 x : BitVec 32) {Q} :
    iprop(records m K ∗ levAts L lv ∗ sigSt c [6, 7] ∗ cred (tallyAt (barCell c) () 7) ∗ atPos ER (barCell c) 0 ∅ 0 ∗ xPts m c ∗ gPts m c ∗ rowPts c c 0 fullShare f) ⊢ iprop(((owesE c (oweR c slots) ∗ allOf (fun d => barPay c (nx c d)) steps ∗ semVal (barCell c) 0 ∗ xPts m c ∗ gPts m c ∗ rowPts c c 0 fullShare (acc m)) -∗ Q ⟨k0_pay1, gRow m c⟩)
      -∗ run c (k0_part2 (F := F) xM (Memref.isWhole_whole _) gM (Memref.isWhole_whole _) oM (Memref.isWhole_whole _) aM (Memref.isWhole_whole _) cc0_scratch1 cc0_scratch2 c v2 (SemArray.scalar (sig.barrier 0 rfl)) v24 x) Q) := by
  rw [k0_part2_eq_skeleton]; unfold k0_part2_skel run
  simp only [semSignalWord, semWaitWord, Prog.lift, Prog.bind_op, Prog.bind_ret, Prog.pure_eq_ret, wp_deviceId]
  iintro ⟨#HR, #Hlev, H, Hc, Hat, Hx, Hg, Hr⟩ Hk
  iapply (cur (step_signal m K c _ 6 (by decide) _ (dev_at (k0_dev6_eq c)) rfl)) $$ HR H; iintro H
  iapply (cur (step_signal m K c _ 7 (by decide) _ (dev_at (k0_dev7_eq c)) rfl)) $$ HR H; iintro H
  iapply (g_load m c) $$ Hg; iintro Hg
  iapply (x_load m c) $$ Hx; iintro Hx
  iapply (row_load c 0 f (k0_off1_eq c)) $$ Hr; iintro Hr
  iapply (row_store_lo m c f (k0_off1_eq c)) $$ Hr; iintro Hr
  unfold sigSt
  icases H with ⟨HO, -⟩
  iapply (step_barrier m K c rfl) $$ [HO Hc Hat]
  · isplitr; · iexact HR
    isplitr; · iexact Hlev
    isplitl [HO]; · iexact HO
    isplitl [Hc]; · iexact Hc
    iexact Hat
  iintro ⟨HO, Hp, Hz⟩
  iapply run_ret
  iapply Hk
  isplitl [HO]; · iexact HO
  isplitl [Hp]; · iexact Hp
  isplitl [Hz]; · iexact Hz
  isplitl [Hx]; · iexact Hx
  isplitl [Hg]; · iexact Hg
  iexact Hr

/-- Transfers 1 to 3 of the first half row, -/
theorem run_part3 (c : Dev nD) (v2 : BitVec 32) {Q} :
    iprop(records m K ∗ sendSt m c slots 0 steps []) ⊢ iprop((sendSt m c [(0, 4), (0, 5), (0, 6), (0, 7), (1, 1), (1, 2), (1, 3), (1, 4), (1, 5), (1, 6), (1, 7)] 0 [4, 5, 6, 7] [(0, 3), (0, 2), (0, 1)] -∗ ∀ x, Q x)
      -∗ run c (k0_part3 (F := F) xM (Memref.isWhole_whole _) gM (Memref.isWhole_whole _) oM (Memref.isWhole_whole _) aM (Memref.isWhole_whole _) cc0_scratch1 cc0_scratch2 c v2) Q) := by
  rw [k0_part3_eq_skeleton]; unfold k0_part3_skel run
  simp only [Prog.lift, Prog.bind_op, Prog.bind_ret, Prog.pure_eq_ret]
  iintro ⟨#HR, H⟩ Hk
  iapply (cur (step_send m K c _ 0 1 (by decide) _ _ _ (dev_at (k0_dev8_eq c)) (rowAt_eq (k0_off3_eq c)) (rowAt_eq (k0_off3_eq c)) (sendAt_eq (p := (0, 1)) rfl)
    (recvAt_eq (p := (0, c)) (k0_off2_eq c)))) $$ HR H; iintro H
  iapply (cur (step_send m K c _ 0 2 (by decide) _ _ _ (dev_at (k0_dev9_eq c)) (rowAt_eq (k0_off3_eq c)) (rowAt_eq (k0_off3_eq c)) (sendAt_eq (p := (0, 2)) rfl)
    (recvAt_eq (p := (0, c)) (k0_off2_eq c)))) $$ HR H; iintro H
  iapply (cur (step_send m K c _ 0 3 (by decide) _ _ _ (dev_at (k0_dev10_eq c)) (rowAt_eq (k0_off3_eq c)) (rowAt_eq (k0_off3_eq c)) (sendAt_eq (p := (0, 3)) rfl)
    (recvAt_eq (p := (0, c)) (k0_off2_eq c)))) $$ HR H; iintro H
  rw [wp_ret]; imodintro
  iapply Hk $$ H

/-- transfers 4 and 5, -/
theorem run_part4 (c : Dev nD) (v2 x : BitVec 32) {Q} :
    iprop(records m K ∗ sendSt m c [(0, 4), (0, 5), (0, 6), (0, 7), (1, 1), (1, 2), (1, 3), (1, 4), (1, 5), (1, 6), (1, 7)] 0 [4, 5, 6, 7] [(0, 3), (0, 2), (0, 1)]) ⊢ iprop((sendSt m c [(0, 6), (0, 7), (1, 1), (1, 2), (1, 3), (1, 4), (1, 5), (1, 6), (1, 7)] 0 [6, 7] [(0, 5), (0, 4), (0, 3), (0, 2), (0, 1)] -∗ Q ⟨⟩)
      -∗ run c (k0_part4 (F := F) xM (Memref.isWhole_whole _) gM (Memref.isWhole_whole _) oM (Memref.isWhole_whole _) aM (Memref.isWhole_whole _) cc0_scratch1 cc0_scratch2 c v2 x) Q) := by
  rw [k0_part4_eq_skeleton]; unfold k0_part4_skel run
  simp only [Prog.lift, Prog.bind_op, Prog.bind_ret, Prog.pure_eq_ret]
  iintro ⟨#HR, H⟩ Hk
  iapply (cur (step_send m K c _ 0 4 (by decide) _ _ _ (dev_at (k0_dev11_eq c)) (rowAt_eq (k0_off3_eq c)) (rowAt_eq (k0_off3_eq c)) (sendAt_eq (p := (0, 4)) rfl)
    (recvAt_eq (p := (0, c)) (k0_off2_eq c)))) $$ HR H; iintro H
  iapply (cur (step_send m K c _ 0 5 (by decide) _ _ _ (dev_at (k0_dev12_eq c)) (rowAt_eq (k0_off3_eq c)) (rowAt_eq (k0_off3_eq c)) (sendAt_eq (p := (0, 5)) rfl)
    (recvAt_eq (p := (0, c)) (k0_off2_eq c)))) $$ HR H; iintro H
  rw [wp_ret]; imodintro
  iapply Hk $$ H

/-- and 6 and 7; then the second half row computed and stored. -/
theorem run_part5 (c : Dev nD) (f : S8x16x128.Idx → Elt F .f32) (v2 : BitVec 32) {Q} :
    iprop(records m K ∗ sendSt m c [(0, 6), (0, 7), (1, 1), (1, 2), (1, 3), (1, 4), (1, 5), (1, 6), (1, 7)] 0 [6, 7] [(0, 5), (0, 4), (0, 3), (0, 2), (0, 1)] ∗ xPts m c ∗ rowPts c c 1 fullShare f) ⊢ iprop(((sendSt m c [(1, 1), (1, 2), (1, 3), (1, 4), (1, 5), (1, 6), (1, 7)] 0 [] [(0, 7), (0, 6), (0, 5), (0, 4), (0, 3), (0, 2), (0, 1)] ∗ xPts m c ∗ rowPts c c 1 fullShare (acc m)) -∗ Q ⟨⟩)
      -∗ run c (k0_part5 (F := F) xM (Memref.isWhole_whole _) gM (Memref.isWhole_whole _) oM (Memref.isWhole_whole _) aM (Memref.isWhole_whole _) cc0_scratch1 cc0_scratch2 c v2) Q) := by
  rw [k0_part5_eq_skeleton]; unfold k0_part5_skel run
  simp only [Prog.lift, Prog.bind_op, Prog.bind_ret, Prog.pure_eq_ret]
  iintro ⟨#HR, H, Hx, Hr⟩ Hk
  iapply (cur (step_send m K c _ 0 6 (by decide) _ _ _ (dev_at (k0_dev13_eq c)) (rowAt_eq (k0_off3_eq c)) (rowAt_eq (k0_off3_eq c)) (sendAt_eq (p := (0, 6)) rfl)
    (recvAt_eq (p := (0, c)) (k0_off2_eq c)))) $$ HR H; iintro H
  iapply (cur (step_send m K c _ 0 7 (by decide) _ _ _ (dev_at (k0_dev14_eq c)) (rowAt_eq (k0_off3_eq c)) (rowAt_eq (k0_off3_eq c)) (sendAt_eq (p := (0, 7)) rfl)
    (recvAt_eq (p := (0, c)) (k0_off2_eq c)))) $$ HR H; iintro H
  iapply (x_load m c) $$ Hx; iintro Hx
  iapply (row_load c 1 f (k0_off4_eq c)) $$ Hr; iintro Hr
  iapply (row_store_hi m c f (k0_off4_eq c)) $$ Hr; iintro Hr
  iapply run_ret
  iapply Hk
  isplitl [H]; · iexact H
  isplitl [Hx]; · iexact Hx
  iexact Hr

/-- Transfers 1 to 3 of the second half row, -/
theorem run_part6 (c : Dev nD) (v2 : BitVec 32) {Q} :
    iprop(records m K ∗ sendSt m c [(1, 1), (1, 2), (1, 3), (1, 4), (1, 5), (1, 6), (1, 7)] 1 [1, 2, 3, 4, 5, 6, 7] [(0, 7), (0, 6), (0, 5), (0, 4), (0, 3), (0, 2), (0, 1)]) ⊢ iprop((sendSt m c [(1, 4), (1, 5), (1, 6), (1, 7)] 1 [4, 5, 6, 7] [(1, 3), (1, 2), (1, 1), (0, 7), (0, 6), (0, 5), (0, 4), (0, 3), (0, 2), (0, 1)] -∗ ∀ x, Q x)
      -∗ run c (k0_part6 (F := F) xM (Memref.isWhole_whole _) gM (Memref.isWhole_whole _) oM (Memref.isWhole_whole _) aM (Memref.isWhole_whole _) cc0_scratch1 cc0_scratch2 c v2) Q) := by
  rw [k0_part6_eq_skeleton]; unfold k0_part6_skel run
  simp only [Prog.lift, Prog.bind_op, Prog.bind_ret, Prog.pure_eq_ret]
  iintro ⟨#HR, H⟩ Hk
  iapply (cur (step_send m K c _ 1 1 (by decide) _ _ _ (dev_at (k0_dev15_eq c)) (rowAt_eq (k0_off6_eq c)) (rowAt_eq (k0_off6_eq c)) (sendAt_eq (p := (1, 1)) rfl)
    (recvAt_eq (p := (1, c)) (k0_off5_eq c)))) $$ HR H; iintro H
  iapply (cur (step_send m K c _ 1 2 (by decide) _ _ _ (dev_at (k0_dev16_eq c)) (rowAt_eq (k0_off6_eq c)) (rowAt_eq (k0_off6_eq c)) (sendAt_eq (p := (1, 2)) rfl)
    (recvAt_eq (p := (1, c)) (k0_off5_eq c)))) $$ HR H; iintro H
  iapply (cur (step_send m K c _ 1 3 (by decide) _ _ _ (dev_at (k0_dev17_eq c)) (rowAt_eq (k0_off6_eq c)) (rowAt_eq (k0_off6_eq c)) (sendAt_eq (p := (1, 3)) rfl)
    (recvAt_eq (p := (1, c)) (k0_off5_eq c)))) $$ HR H; iintro H
  rw [wp_ret]; imodintro
  iapply Hk $$ H

/-- transfers 4 and 5, -/
theorem run_part7 (c : Dev nD) (v2 x : BitVec 32) {Q} :
    iprop(records m K ∗ sendSt m c [(1, 4), (1, 5), (1, 6), (1, 7)] 1 [4, 5, 6, 7] [(1, 3), (1, 2), (1, 1), (0, 7), (0, 6), (0, 5), (0, 4), (0, 3), (0, 2), (0, 1)]) ⊢ iprop((sendSt m c [(1, 6), (1, 7)] 1 [6, 7] [(1, 5), (1, 4), (1, 3), (1, 2), (1, 1), (0, 7), (0, 6), (0, 5), (0, 4), (0, 3), (0, 2), (0, 1)] -∗ Q ⟨⟩)
      -∗ run c (k0_part7 (F := F) xM (Memref.isWhole_whole _) gM (Memref.isWhole_whole _) oM (Memref.isWhole_whole _) aM (Memref.isWhole_whole _) cc0_scratch1 cc0_scratch2 c v2 x) Q) := by
  rw [k0_part7_eq_skeleton]; unfold k0_part7_skel run
  simp only [Prog.lift, Prog.bind_op, Prog.bind_ret, Prog.pure_eq_ret]
  iintro ⟨#HR, H⟩ Hk
  iapply (cur (step_send m K c _ 1 4 (by decide) _ _ _ (dev_at (k0_dev18_eq c)) (rowAt_eq (k0_off6_eq c)) (rowAt_eq (k0_off6_eq c)) (sendAt_eq (p := (1, 4)) rfl)
    (recvAt_eq (p := (1, c)) (k0_off5_eq c)))) $$ HR H; iintro H
  iapply (cur (step_send m K c _ 1 5 (by decide) _ _ _ (dev_at (k0_dev19_eq c)) (rowAt_eq (k0_off6_eq c)) (rowAt_eq (k0_off6_eq c)) (sendAt_eq (p := (1, 5)) rfl)
    (recvAt_eq (p := (1, c)) (k0_off5_eq c)))) $$ HR H; iintro H
  rw [wp_ret]; imodintro
  iapply Hk $$ H

/-- and 6 and 7; then the wait for the first half row of the device before `c`. -/
theorem run_part8 (c : Dev nD) (v2 : BitVec 32) {Q} :
    iprop(records m K ∗ sendSt m c [(1, 6), (1, 7)] 1 [6, 7] [(1, 5), (1, 4), (1, 3), (1, 2), (1, 1), (0, 7), (0, 6), (0, 5), (0, 4), (0, 3), (0, 2), (0, 1)] ∗ allOf (recvRes c 0) steps) ⊢ iprop((∀ x, (allOf (fun p => cred (tallyAt (sendCell c p) () N)) [(1, 7), (1, 6), (1, 5), (1, 4), (1, 3), (1, 2), (1, 1), (0, 7), (0, 6), (0, 5), (0, 4), (0, 3), (0, 2), (0, 1)] ∗ recvSt m c 0 [2, 3, 4, 5, 6, 7] [1]) -∗ Q x)
      -∗ run c (k0_part8 (F := F) xM (Memref.isWhole_whole _) gM (Memref.isWhole_whole _) oM (Memref.isWhole_whole _) aM (Memref.isWhole_whole _) cc0_scratch1 cc0_scratch2 c v2) Q) := by
  rw [k0_part8_eq_skeleton]; unfold k0_part8_skel run
  simp only [Prog.lift, Prog.bind_op, Prog.bind_ret, Prog.pure_eq_ret]
  iintro ⟨#HR, H, Hr⟩ Hk
  iapply (cur (step_send m K c _ 1 6 (by decide) _ _ _ (dev_at (k0_dev20_eq c)) (rowAt_eq (k0_off6_eq c)) (rowAt_eq (k0_off6_eq c)) (sendAt_eq (p := (1, 6)) rfl)
    (recvAt_eq (p := (1, c)) (k0_off5_eq c)))) $$ HR H; iintro H
  iapply (cur (step_send m K c _ 1 7 (by decide) _ _ _ (dev_at (k0_dev21_eq c)) (rowAt_eq (k0_off6_eq c)) (rowAt_eq (k0_off6_eq c)) (sendAt_eq (p := (1, 7)) rfl)
    (recvAt_eq (p := (1, c)) (k0_off5_eq c)))) $$ HR H; iintro H
  unfold sendSt
  icases H with ⟨HO, -, -, Hd⟩
  ihave H := (recv_begin m c 0) $$ [HO Hr]
  · isplitl [HO]; · iexact HO
    iexact Hr
  iapply (cur (step_recv m K c 0 1 (by decide) _ _ (recvAt_eq (p := (0, bk c 1)) (off7_at c 0)) credit_row)) $$ HR H; iintro H
  iapply run_ret
  iapply Hk
  isplitl [Hd]; · iexact Hd
  iexact H

/-- The waits for the first half rows of the devices 2 and 3 before, -/
theorem run_part9 (c : Dev nD) (v2 x : BitVec 32) {Q} :
    iprop(records m K ∗ recvSt m c 0 [2, 3, 4, 5, 6, 7] [1]) ⊢ iprop((recvSt m c 0 [4, 5, 6, 7] [3, 2, 1] -∗ Q ⟨⟩)
      -∗ run c (k0_part9 (F := F) xM (Memref.isWhole_whole _) gM (Memref.isWhole_whole _) oM (Memref.isWhole_whole _) aM (Memref.isWhole_whole _) cc0_scratch1 cc0_scratch2 c v2 x) Q) := by
  rw [k0_part9_eq_skeleton]; unfold k0_part9_skel run
  simp only [Prog.lift, Prog.bind_op, Prog.bind_ret, Prog.pure_eq_ret]
  iintro ⟨#HR, H⟩ Hk
  iapply (cur (step_recv m K c 0 2 (by decide) _ _ (recvAt_eq (p := (0, bk c 2)) (off7_at c 1)) credit_row)) $$ HR H; iintro H
  iapply (cur (step_recv m K c 0 3 (by decide) _ _ (recvAt_eq (p := (0, bk c 3)) (off7_at c 2)) credit_row)) $$ HR H; iintro H
  rw [wp_ret]; imodintro
  iapply Hk $$ H

/-- 4, 5 and 6 before, -/
theorem run_part10 (c : Dev nD) (v2 : BitVec 32) {Q} :
    iprop(records m K ∗ recvSt m c 0 [4, 5, 6, 7] [3, 2, 1]) ⊢ iprop((recvSt m c 0 [7] [6, 5, 4, 3, 2, 1] -∗ ∀ x, Q x)
      -∗ run c (k0_part10 (F := F) xM (Memref.isWhole_whole _) gM (Memref.isWhole_whole _) oM (Memref.isWhole_whole _) aM (Memref.isWhole_whole _) cc0_scratch1 cc0_scratch2 c v2) Q) := by
  rw [k0_part10_eq_skeleton]; unfold k0_part10_skel run
  simp only [Prog.lift, Prog.bind_op, Prog.bind_ret, Prog.pure_eq_ret]
  iintro ⟨#HR, H⟩ Hk
  iapply (cur (step_recv m K c 0 4 (by decide) _ _ (recvAt_eq (p := (0, bk c 4)) (off7_at c 3)) credit_row)) $$ HR H; iintro H
  iapply (cur (step_recv m K c 0 5 (by decide) _ _ (recvAt_eq (p := (0, bk c 5)) (off7_at c 4)) credit_row)) $$ HR H; iintro H
  iapply (cur (step_recv m K c 0 6 (by decide) _ _ (recvAt_eq (p := (0, bk c 6)) (off7_at c 5)) credit_row)) $$ HR H; iintro H
  rw [wp_ret]; imodintro
  iapply Hk $$ H

/-- and 7 before; then the scales of the first half of the rows, and the first block of the result computed. -/
theorem run_part11 (c : Dev nD) (v2 x : BitVec 32) (e : FVec F S128x128 .f32) (g : FVec F S1x1024 .f32) {Q} :
    iprop(records m K ∗ recvSt m c 0 [7] [6, 5, 4, 3, 2, 1] ∗ rowPts c c 0 (shr 0) (acc m) ∗ xPts m c) ⊢ iprop(((owesE c 0 ∗ gotHalf m c 0 ∗ xPts m c) -∗ Q ⟨k0_pay5 e (aLo m), k0_pay6 e g (aLo m) (xQ0 m c)⟩)
      -∗ run c (k0_part11 (F := F) xM (Memref.isWhole_whole _) gM (Memref.isWhole_whole _) oM (Memref.isWhole_whole _) aM (Memref.isWhole_whole _) cc0_scratch1 cc0_scratch2 c v2 e g x) Q) := by
  rw [k0_part11_eq_skeleton]; unfold k0_part11_skel run
  simp only [Prog.lift, Prog.bind_op, Prog.bind_ret, Prog.pure_eq_ret]
  iintro ⟨#HR, H, Ha, Hx⟩ Hk
  iapply (cur (step_recv m K c 0 7 (by decide) _ _ (recvAt_eq (p := (0, bk c 7)) (off7_at c 6)) credit_row)) $$ HR H; iintro H
  ihave H := (half_in m c 0) $$ [Ha H]
  · isplitl [Ha]; · iexact Ha
    iexact H
  unfold gotHalf
  icases H with ⟨HO, Hh, Hg⟩
  iapply (half_load c 0 (shr 0) (acc m) (by rfl)) $$ Hh; iintro Hh
  iapply (x_load m c) $$ Hx; iintro Hx
  iapply run_ret
  iapply Hk
  isplitl [HO]; · iexact HO
  isplitl [Hh Hg]
  · isplitl [Hh]; · iexact Hh
    iexact Hg
  iexact Hx

/-- The first two blocks of the result stored; the wait for the second half row of the device before `c`. -/
theorem run_part12 (c : Dev nD) (f : S2048x1024.Idx → Elt F .bf16) (v2 : BitVec 32) (g : FVec F S1x1024 .f32) (u : FVec F S128x8 .f32) (w : FVec F S512x1024 .bf16) {Q} :
    iprop(records m K ∗ recvSt m c 1 [1, 2, 3, 4, 5, 6, 7] [] ∗ xPts m c ∗ oPts c f) ⊢ iprop(((recvSt m c 1 [2, 3, 4, 5, 6, 7] [1] ∗ xPts m c ∗ oPts c (((oM).access (Rect.unit (s := S2048x1024) ![512, 0] S512x1024.size inb_S2048x1024_S512x1024_512_0)).write (Elt F) (((oM).access (Rect.unit (s := S2048x1024) ![0, 0] S512x1024.size inb_S2048x1024_S512x1024_0_0)).write (Elt F) f w Finset.univ) (k0_pay7 g u (xQ1 m c)) Finset.univ)) -∗ Q ⟨⟩)
      -∗ run c (k0_part12 (F := F) xM (Memref.isWhole_whole _) gM (Memref.isWhole_whole _) oM (Memref.isWhole_whole _) aM (Memref.isWhole_whole _) cc0_scratch1 cc0_scratch2 c v2 g u w) Q) := by
  rw [k0_part12_eq_skeleton]; unfold k0_part12_skel run
  simp only [Prog.lift, Prog.bind_op, Prog.bind_ret, Prog.pure_eq_ret]
  iintro ⟨#HR, H, Hx, Ho⟩ Hk
  iapply (o_load c _) $$ Ho; iintro Ho
  iapply (o_store c _) $$ Ho; iintro Ho
  iapply (x_load m c) $$ Hx; iintro Hx
  iapply (o_load c _) $$ Ho; iintro Ho
  iapply (o_store c _) $$ Ho; iintro Ho
  iapply (cur (step_recv m K c 1 1 (by decide) _ _ (recvAt_eq (p := (1, bk c 1)) (off9_at c 0)) credit_row)) $$ HR H; iintro H
  iapply run_ret
  iapply Hk
  isplitl [H]; · iexact H
  isplitl [Hx]; · iexact Hx
  iexact Ho

/-- The waits for the second half rows of the devices 2 and 3 before, -/
theorem run_part13 (c : Dev nD) (v2 : BitVec 32) {Q} :
    iprop(records m K ∗ recvSt m c 1 [2, 3, 4, 5, 6, 7] [1]) ⊢ iprop((recvSt m c 1 [4, 5, 6, 7] [3, 2, 1] -∗ Q ⟨⟩)
      -∗ run c (k0_part13 (F := F) xM (Memref.isWhole_whole _) gM (Memref.isWhole_whole _) oM (Memref.isWhole_whole _) aM (Memref.isWhole_whole _) cc0_scratch1 cc0_scratch2 c v2) Q) := by
  rw [k0_part13_eq_skeleton]; unfold k0_part13_skel run
  simp only [Prog.lift, Prog.bind_op, Prog.bind_ret, Prog.pure_eq_ret]
  iintro ⟨#HR, H⟩ Hk
  iapply (cur (step_recv m K c 1 2 (by decide) _ _ (recvAt_eq (p := (1, bk c 2)) (off9_at c 1)) credit_row)) $$ HR H; iintro H
  iapply (cur (step_recv m K c 1 3 (by decide) _ _ (recvAt_eq (p := (1, bk c 3)) (off9_at c 2)) credit_row)) $$ HR H; iintro H
  rw [wp_ret]; imodintro
  iapply Hk $$ H

/-- 4, 5 and 6 before, -/
theorem run_part14 (c : Dev nD) (v2 : BitVec 32) {Q} :
    iprop(records m K ∗ recvSt m c 1 [4, 5, 6, 7] [3, 2, 1]) ⊢ iprop((recvSt m c 1 [7] [6, 5, 4, 3, 2, 1] -∗ Q ⟨⟩)
      -∗ run c (k0_part14 (F := F) xM (Memref.isWhole_whole _) gM (Memref.isWhole_whole _) oM (Memref.isWhole_whole _) aM (Memref.isWhole_whole _) cc0_scratch1 cc0_scratch2 c v2) Q) := by
  rw [k0_part14_eq_skeleton]; unfold k0_part14_skel run
  simp only [Prog.lift, Prog.bind_op, Prog.bind_ret, Prog.pure_eq_ret]
  iintro ⟨#HR, H⟩ Hk
  iapply (cur (step_recv m K c 1 4 (by decide) _ _ (recvAt_eq (p := (1, bk c 4)) (off9_at c 3)) credit_row)) $$ HR H; iintro H
  iapply (cur (step_recv m K c 1 5 (by decide) _ _ (recvAt_eq (p := (1, bk c 5)) (off9_at c 4)) credit_row)) $$ HR H; iintro H
  iapply (cur (step_recv m K c 1 6 (by decide) _ _ (recvAt_eq (p := (1, bk c 6)) (off9_at c 5)) credit_row)) $$ HR H; iintro H
  rw [wp_ret]; imodintro
  iapply Hk $$ H

/-- and 7 before; then the scales of the second half of the rows, and the third block of the result stored. -/
theorem run_part15 (c : Dev nD) (f : S2048x1024.Idx → Elt F .bf16) (v2 : BitVec 32) (e : FVec F S128x128 .f32) (g : FVec F S1x1024 .f32) {Q} :
    iprop(records m K ∗ recvSt m c 1 [7] [6, 5, 4, 3, 2, 1] ∗ rowPts c c 1 (shr 0) (acc m) ∗ xPts m c ∗ oPts c f) ⊢ iprop(((owesE c 0 ∗ gotHalf m c 1 ∗ xPts m c ∗ oPts c (((oM).access (Rect.unit (s := S2048x1024) ![1024, 0] S512x1024.size inb_S2048x1024_S512x1024_1024_0)).write (Elt F) f (k0_pay9 e g (aHi m) (xQ2 m c)) Finset.univ)) -∗ Q ⟨k0_pay8 e (aHi m), k0_pay10 e (aHi m)⟩)
      -∗ run c (k0_part15 (F := F) xM (Memref.isWhole_whole _) gM (Memref.isWhole_whole _) oM (Memref.isWhole_whole _) aM (Memref.isWhole_whole _) cc0_scratch1 cc0_scratch2 c v2 e g) Q) := by
  rw [k0_part15_eq_skeleton]; unfold k0_part15_skel run
  simp only [Prog.lift, Prog.bind_op, Prog.bind_ret, Prog.pure_eq_ret]
  iintro ⟨#HR, H, Ha, Hx, Ho⟩ Hk
  iapply (cur (step_recv m K c 1 7 (by decide) _ _ (recvAt_eq (p := (1, bk c 7)) (off9_at c 6)) credit_row)) $$ HR H; iintro H
  ihave H := (half_in m c 1) $$ [Ha H]
  · isplitl [Ha]; · iexact Ha
    iexact H
  unfold gotHalf
  icases H with ⟨HO, Hh, Hg⟩
  iapply (half_load c 1 (shr 0) (acc m) (by rfl)) $$ Hh; iintro Hh
  iapply (x_load m c) $$ Hx; iintro Hx
  iapply (o_load c _) $$ Ho; iintro Ho
  iapply (o_store c _) $$ Ho; iintro Ho
  iapply run_ret
  iapply Hk
  isplitl [HO]; · iexact HO
  isplitl [Hh Hg]
  · isplitl [Hh]; · iexact Hh
    iexact Hg
  isplitl [Hx]; · iexact Hx
  iexact Ho

/-- The last block of the result stored; the waits for the own transfers 1 and 2 of the first half row, -/
theorem run_part16 (c : Dev nD) (f : S2048x1024.Idx → Elt F .bf16) (g : FVec F S1x1024 .f32) (u : FVec F S128x8 .f32) (v : FVec F S128x1 .f32) {Q} :
    iprop(records m K ∗ waitSt m c slots [] ∗ xPts m c ∗ oPts c f) ⊢ iprop(((waitSt m c [(0, 3), (0, 4), (0, 5), (0, 6), (0, 7), (1, 1), (1, 2), (1, 3), (1, 4), (1, 5), (1, 6), (1, 7)] [(0, 2), (0, 1)] ∗ xPts m c ∗ oPts c (((oM).access (Rect.unit (s := S2048x1024) ![1536, 0] S512x1024.size inb_S2048x1024_S512x1024_1536_0)).write (Elt F) f (k0_pay11 g u v (xQ3 m c)) Finset.univ)) -∗ Q ⟨⟩)
      -∗ run c (k0_part16 (F := F) xM (Memref.isWhole_whole _) gM (Memref.isWhole_whole _) oM (Memref.isWhole_whole _) aM (Memref.isWhole_whole _) cc0_scratch1 cc0_scratch2 c g u v) Q) := by
  rw [k0_part16_eq_skeleton]; unfold k0_part16_skel run
  simp only [Prog.lift, Prog.bind_op, Prog.bind_ret, Prog.pure_eq_ret]
  iintro ⟨#HR, H, Hx, Ho⟩ Hk
  iapply (x_load m c) $$ Hx; iintro Hx
  iapply (o_load c _) $$ Ho; iintro Ho
  iapply (o_store c _) $$ Ho; iintro Ho
  iapply (cur (step_wait m K c (0, 1) (by decide) _ _ (sendAt_eq (p := (0, 1)) rfl) credit_row)) $$ HR H; iintro H
  iapply (cur (step_wait m K c (0, 2) (by decide) _ _ (sendAt_eq (p := (0, 2)) rfl) credit_row)) $$ HR H; iintro H
  iapply run_ret
  iapply Hk
  isplitl [H]; · iexact H
  isplitl [Hx]; · iexact Hx
  iexact Ho

/-- the waits for 3 to 6 of the first half row, -/
theorem run_part17 (c : Dev nD)  {Q} :
    iprop(records m K ∗ waitSt m c [(0, 3), (0, 4), (0, 5), (0, 6), (0, 7), (1, 1), (1, 2), (1, 3), (1, 4), (1, 5), (1, 6), (1, 7)] [(0, 2), (0, 1)]) ⊢ iprop((waitSt m c [(0, 7), (1, 1), (1, 2), (1, 3), (1, 4), (1, 5), (1, 6), (1, 7)] [(0, 6), (0, 5), (0, 4), (0, 3), (0, 2), (0, 1)] -∗ Q ⟨⟩)
      -∗ run c (k0_part17 (F := F) xM (Memref.isWhole_whole _) gM (Memref.isWhole_whole _) oM (Memref.isWhole_whole _) aM (Memref.isWhole_whole _) cc0_scratch1 cc0_scratch2 c) Q) := by
  rw [k0_part17_eq_skeleton]; unfold k0_part17_skel run
  simp only [Prog.lift, Prog.bind_op, Prog.bind_ret, Prog.pure_eq_ret]
  iintro ⟨#HR, H⟩ Hk
  iapply (cur (step_wait m K c (0, 3) (by decide) _ _ (sendAt_eq (p := (0, 3)) rfl) credit_row)) $$ HR H; iintro H
  iapply (cur (step_wait m K c (0, 4) (by decide) _ _ (sendAt_eq (p := (0, 4)) rfl) credit_row)) $$ HR H; iintro H
  iapply (cur (step_wait m K c (0, 5) (by decide) _ _ (sendAt_eq (p := (0, 5)) rfl) credit_row)) $$ HR H; iintro H
  iapply (cur (step_wait m K c (0, 6) (by decide) _ _ (sendAt_eq (p := (0, 6)) rfl) credit_row)) $$ HR H; iintro H
  rw [wp_ret]; imodintro
  iapply Hk $$ H

/-- and those for 7 of the first half row and 1 to 3 of the second. -/
theorem run_part18 (c : Dev nD)  {Q} :
    iprop(records m K ∗ waitSt m c [(0, 7), (1, 1), (1, 2), (1, 3), (1, 4), (1, 5), (1, 6), (1, 7)] [(0, 6), (0, 5), (0, 4), (0, 3), (0, 2), (0, 1)]) ⊢ iprop((waitSt m c [(1, 4), (1, 5), (1, 6), (1, 7)] [(1, 3), (1, 2), (1, 1), (0, 7), (0, 6), (0, 5), (0, 4), (0, 3), (0, 2), (0, 1)] -∗ Q ⟨⟩)
      -∗ run c (k0_part18 (F := F) xM (Memref.isWhole_whole _) gM (Memref.isWhole_whole _) oM (Memref.isWhole_whole _) aM (Memref.isWhole_whole _) cc0_scratch1 cc0_scratch2 c) Q) := by
  rw [k0_part18_eq_skeleton]; unfold k0_part18_skel run
  simp only [Prog.lift, Prog.bind_op, Prog.bind_ret, Prog.pure_eq_ret]
  iintro ⟨#HR, H⟩ Hk
  iapply (cur (step_wait m K c (0, 7) (by decide) _ _ (sendAt_eq (p := (0, 7)) rfl) credit_row)) $$ HR H; iintro H
  iapply (cur (step_wait m K c (1, 1) (by decide) _ _ (sendAt_eq (p := (1, 1)) rfl) credit_row)) $$ HR H; iintro H
  iapply (cur (step_wait m K c (1, 2) (by decide) _ _ (sendAt_eq (p := (1, 2)) rfl) credit_row)) $$ HR H; iintro H
  iapply (cur (step_wait m K c (1, 3) (by decide) _ _ (sendAt_eq (p := (1, 3)) rfl) credit_row)) $$ HR H; iintro H
  rw [wp_ret]; imodintro
  iapply Hk $$ H

end Cert.Exch
-- ==== Proof.Glue.lean ====
/-
# Between the phases

What a device holds when one phase of the exchange ends is what the next begins with: the rows of its buffer handed over
with its signals; the rows of the others' buffers, the tokens and the shares of its own row for its transfers; and, at the
end, the buffer whole again.
-/
module

public import proofs.«01_k».proof.Proof.Parts

@[expose] public section

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- A conjunction over a list is the conjunction of two. -/
theorem allOf_zip {I : Type} [DecidableEq I] {Θ Φ Ψ : I → sProp 𝕄} (e : ∀ i, Θ i = iprop(Φ i ∗ Ψ i)) (l : List I) (h : l.Nodup) :
    allOf Θ l = iprop(allOf Φ l ∗ allOf Ψ l) := by
  rw [show Θ = fun i => iprop(Φ i ∗ Ψ i) from funext e, allOf_sep Φ Ψ l h]

/-- The fourteen transfers of a device are listed once each. -/
theorem slots_nodup : slots.Nodup := by decide

omit [FloatOps F] in
/-- Over all indices of a semaphore array: the two unused of a send array, then the transfers'; -/
theorem all_pairs (Φ : Fin 2 × Fin 8 → sProp 𝕄) : bigSep Finset.univ Φ = iprop(Φ (0, 0) ∗ Φ (1, 0) ∗ allOf Φ slots) := by
  rw [show (Finset.univ : Finset (Fin 2 × Fin 8)) = ((0, 0) :: (1, 0) :: slots).toFinset by decide, ← allOf_eq _ _ (by decide)]
  rfl

omit [FloatOps F] in
/-- the two unused of device `c`'s receive array, then those of the devices before it, half by half. -/
theorem all_pairs_bk (c : Dev nD) (Φ : Fin 2 × Fin 8 → sProp 𝕄) :
    bigSep Finset.univ Φ = iprop(Φ (0, c) ∗ Φ (1, c) ∗ allOf (fun d => Φ (0, bk c d)) steps ∗ allOf (fun d => Φ (1, bk c d)) steps) := by
  rw [show (Finset.univ : Finset (Fin 2 × Fin 8))
      = ((0, c) :: (1, c) :: (steps.map (fun d => ((0 : Fin 2), bk c d)) ++ steps.map (fun d => ((1 : Fin 2), bk c d)))).toFinset by revert c; decide,
    ← allOf_eq _ _ (by revert c; decide), allOf_cons, allOf_cons, allOf_append, allOf_map, allOf_map]

omit [FloatOps F] in
/-- Over all cells of a device. -/
theorem all_cells (c : Dev nD) (Φ : Ck → sProp 𝕄) :
    bigSep Finset.univ Φ = iprop(Φ (.inl ())
      ∗ (Φ (.inr (.inl (0, 0))) ∗ Φ (.inr (.inl (1, 0))) ∗ allOf (fun p => Φ (.inr (.inl p))) slots)
      ∗ (Φ (.inr (.inr (0, c))) ∗ Φ (.inr (.inr (1, c))) ∗ allOf (fun d => Φ (.inr (.inr (0, bk c d)))) steps ∗ allOf (fun d => Φ (.inr (.inr (1, bk c d)))) steps)) := by
  rw [bigSep_univ_sum, bigSep_univ_sum (fun b => Φ (.inr b)), all_pairs (fun p => Φ (.inr (.inl p))), all_pairs_bk c (fun p => Φ (.inr (.inr p)))]
  rw [show (bigSep Finset.univ fun a : Unit => Φ (.inl a)) = Φ (.inl ()) from bigSep_singleton]
  rfl

omit [FloatOps F] in
/-- A half of the buffer is the own half row and those of the devices after, in order. -/
theorem half_rows (c : Dev nD) (h : Fin 2) (f : S8x16x128.Idx → Elt F .f32) :
    (halfPts c h fullShare f : sProp 𝕄) = iprop(rowPts c c h fullShare f ∗ allOf (fun d => rowPts c (nx c d) h fullShare f) steps) := by
  rw [halfPts_eq, all_nx c (fun s => rowPts c s h fullShare f)]

omit [FloatOps F] in
/-- Before the signals: the whole buffer gives the own two half rows, and the rows to hand over. -/
theorem sig_begin (c : Dev nD) (f : S8x16x128.Idx → Elt F .f32) :
    iprop(owesE c (oweS c steps) ∗ allOf (fun d => dutyTok ER (barCell (nx c d)) 0 c) steps ∗ (((c : Thread nD τ).loc cc0_scratch0) ↦{fullShare} f))
      ⊢ iprop(sigSt c steps ∗ rowPts c c 0 fullShare f ∗ rowPts c c 1 fullShare f : sProp 𝕄) := by
  rw [buffer_eq, half_rows, half_rows]
  unfold sigSt
  rw [show (allOf (sigRes c) steps : sProp 𝕄) = _ from allOf_sep (fun d => dutyTok ER (barCell (nx c d)) 0 c) (fun d => barPay (nx c d) c) steps (by decide),
    show (allOf (fun d => barPay (nx c d) c) steps : sProp 𝕄) = _ from
      allOf_sep (fun d => iprop(∃ f, rowPts c (nx c d) 0 fullShare f)) (fun d => iprop(∃ f, rowPts c (nx c d) 1 fullShare f)) steps (by decide)]
  iintro ⟨HO, Ht, ⟨H0, H0'⟩, H1, H1'⟩
  isplitl [HO Ht H0' H1']
  · isplitl [HO]; · iexact HO
    isplitl [Ht]; · iexact Ht
    isplitl [H0']
    · iapply (allOf_mono (fun d => show (rowPts c (nx c d) 0 fullShare f : sProp 𝕄) ⊢ iprop(∃ f, rowPts c (nx c d) 0 fullShare f) from by iintro H; iexists f; iexact H) steps)
      iexact H0'
    iapply (allOf_mono (fun d => show (rowPts c (nx c d) 1 fullShare f : sProp 𝕄) ⊢ iprop(∃ f, rowPts c (nx c d) 1 fullShare f) from by iintro H; iexists f; iexact H) steps)
    iexact H1'
  isplitl [H0]; · iexact H0
  iexact H1

/-- After the barrier: the rows the others handed over are where the transfers write; the own first half row, but for an
    eighth, is what they read. -/
theorem send_begin (c : Dev nD) :
    iprop(owesE c (oweR c slots) ∗ allOf (fun d => barPay c (nx c d)) steps ∗ allOf (fun p => dutyTok ER (sendCell c p) 0 0) slots
        ∗ allOf (fun p => dutyTok ER (recvCell (nx c p.2) (p.1, c)) 0 0) slots ∗ rowPts c c 0 fullShare (acc m))
      ⊢ iprop(sendSt m c slots 0 steps [] ∗ rowPts c c 0 (shr 0) (acc m)) := by
  unfold sendSt srcs
  rw [allOf_zip (Θ := sendRes c) (Φ := fun p => iprop(∃ f, rowPts (nx c p.2) c p.1 fullShare f))
      (Ψ := fun p => iprop(dutyTok ER (sendCell c p) 0 0 ∗ dutyTok ER (recvCell (nx c p.2) (p.1, c)) 0 0)) (fun p => rfl) slots slots_nodup,
    allOf_sep (fun p => dutyTok ER (sendCell c p) 0 0) (fun p => dutyTok ER (recvCell (nx c p.2) (p.1, c)) 0 0) slots slots_nodup,
    allOf_slots (fun p => iprop(∃ f, rowPts (nx c p.2) c p.1 fullShare f)),
    show (allOf (fun d => barPay c (nx c d)) steps : sProp 𝕄) = _ from
      allOf_sep (fun d => iprop(∃ f, rowPts (nx c d) c 0 fullShare f)) (fun d => iprop(∃ f, rowPts (nx c d) c 1 fullShare f)) steps (by decide),
    rowPts_eq c c 0 (acc m)]
  unfold restPts
  iintro ⟨HO, ⟨H0, H1⟩, Hs, Hr, Ha, Hb⟩
  isplitr [Ha]
  · isplitl [HO]; · iexact HO
    isplitl [H0 H1 Hs Hr]
    · isplitl [H0 H1]
      · isplitl [H0]; · iexact H0
        iexact H1
      isplitl [Hs]; · iexact Hs
      iexact Hr
    isplitl [Hb]; · iexact Hb
    iempintro
  iexact Ha

/-- The first half's transfers made, those of the second read the second half row. -/
theorem send_next (c : Dev nD) (l done : List (Fin 2 × Fin 8)) :
    iprop(sendSt m c l 0 [] done ∗ rowPts c c 1 fullShare (acc m)) ⊢ iprop(sendSt m c l 1 steps done ∗ rowPts c c 1 (shr 0) (acc m)) := by
  unfold sendSt srcs
  rw [rowPts_eq c c 1 (acc m)]
  unfold restPts
  iintro ⟨⟨HO, Hl, -, Hd⟩, Ha, Hb⟩
  isplitr [Ha]
  · isplitl [HO]; · iexact HO
    isplitl [Hl]; · iexact Hl
    isplitl [Hb]; · iexact Hb
    iexact Hd
  iexact Ha

/-- All transfers made and all half rows in, the waits for the own transfers begin. -/
theorem wait_begin (c : Dev nD) :
    iprop(owesE c 0 ∗ allOf (fun p => cred (tallyAt (sendCell c p) () N)) [(1, 7), (1, 6), (1, 5), (1, 4), (1, 3), (1, 2), (1, 1), (0, 7), (0, 6), (0, 5), (0, 4), (0, 3), (0, 2), (0, 1)]
        ∗ allOf (fun p => atPos ER (sendCell c p) 0 ∅ 0) slots)
      ⊢ waitSt m c slots [] := by
  unfold waitSt
  rw [allOf_zip (Θ := waitRes c) (Φ := fun p => atPos ER (sendCell c p) 0 ∅ 0) (Ψ := fun p => cred (tallyAt (sendCell c p) () N)) (fun p => rfl) slots slots_nodup,
    allOf_perm _ [(1, 7), (1, 6), (1, 5), (1, 4), (1, 3), (1, 2), (1, 1), (0, 7), (0, 6), (0, 5), (0, 4), (0, 3), (0, 2), (0, 1)] slots (by decide) (by decide) (by decide)]
  iintro ⟨HO, Hc, Ha⟩
  isplitl [HO]; · iexact HO
  isplitl [Ha Hc]
  · isplitl [Ha]; · iexact Ha
    iexact Hc
  iempintro

/-- They over: the shares of the own row are back, and the send counters. -/
theorem wait_end (c : Dev nD) :
    waitSt m c [] [(1, 7), (1, 6), (1, 5), (1, 4), (1, 3), (1, 2), (1, 1), (0, 7), (0, 6), (0, 5), (0, 4), (0, 3), (0, 2), (0, 1)]
      ⊢ iprop(owesE c 0 ∗ restPts c c 0 (acc m) ∗ restPts c c 1 (acc m) ∗ allOf (fun p => semVal (sendCell c p) 0) slots) := by
  unfold waitSt restPts
  rw [allOf_perm (waitDone m c) [(1, 7), (1, 6), (1, 5), (1, 4), (1, 3), (1, 2), (1, 1), (0, 7), (0, 6), (0, 5), (0, 4), (0, 3), (0, 2), (0, 1)] slots (by decide) (by decide) (by decide),
    allOf_zip (Θ := waitDone m c) (Φ := fun p => rowPts c c p.1 (shr p.2) (acc m)) (Ψ := fun p => semVal (sendCell c p) 0) (fun p => rfl) slots slots_nodup,
    allOf_slots (fun p => rowPts c c p.1 (shr p.2) (acc m))]
  iintro ⟨HO, -, ⟨H0, H1⟩, Hz⟩
  isplitl [HO]; · iexact HO
  isplitl [H0]; · iexact H0
  isplitl [H1]; · iexact H1
  iexact Hz

/-- The landing buffer put together, all of it holding `acc`; beside it the receive counters. -/
theorem finish (c : Dev nD) :
    iprop(gotHalf m c 0 ∗ gotHalf m c 1 ∗ restPts c c 0 (acc m) ∗ restPts c c 1 (acc m))
      ⊢ iprop((((c : Thread nD τ).loc cc0_scratch0) ↦{fullShare} (acc m))
          ∗ allOf (fun d => semVal (recvCell c (0, bk c d)) 0) steps ∗ allOf (fun d => semVal (recvCell c (1, bk c d)) 0) steps) := by
  rw [buffer_eq, half_parts c 0, half_parts c 1]
  unfold gotHalf
  iintro ⟨⟨Ha, Hb, Hs⟩, ⟨Ha', Hb', Hs'⟩, Hr, Hr'⟩
  isplitr [Hs Hs']
  · isplitl [Ha Hb Hr]
    · isplitl [Ha]; · iexact Ha
      isplitl [Hr]; · iexact Hr
      iexact Hb
    isplitl [Ha']; · iexact Ha'
    isplitl [Hr']; · iexact Hr'
    iexact Hb'
  isplitl [Hs]; · iexact Hs
  iexact Hs'

end Cert.Exch
-- ==== Proof.Body.lean ====
/-
# The body of a device

From what the launch gives it — the facts all devices share, its positions on its own cells, the tokens for what it pays,
the credit for what it waits for, its landing buffer — the program runs through to the result, the buffer holding `acc`
and every counter at zero.
-/
module

public import proofs.«01_k».proof.Proof.Glue
public import proofs.«01_k».proof.Proof.Gen.KernelIdeal.Points

@[expose] public section

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg) (K : Dev nD × Ck → ℕ)

/-! ## What a device starts from and what it ends with -/

/-- The positions of device `c` on its own cells, and the tokens for what it pays: a barrier unit of each other device, both
    ends of each of its transfers. -/
def linear (c : Dev nD) : sProp 𝕄 :=
  iprop((bigSep Finset.univ fun k : Ck => atPos ER (kcell (c, k)) 0 ∅ 0)
    ∗ allOf (fun d => dutyTok ER (barCell (nx c d)) 0 c) steps
    ∗ allOf (fun p => dutyTok ER (sendCell c p) 0 0) slots
    ∗ allOf (fun p => dutyTok ER (recvCell (nx c p.2) (p.1, c)) 0 0) slots)
/-- The credit for its waits: the seven units of its barrier, a half row on each receive cell used. -/
def credits (c : Dev nD) : sProp 𝕄 :=
  iprop(cred (tallyAt (barCell c) () 7)
    ∗ allOf (fun d => cred (tallyAt (recvCell c (0, bk c d)) () N)) steps ∗ allOf (fun d => cred (tallyAt (recvCell c (1, bk c d)) () N)) steps)
/-- All that the body starts from beside the landing buffer. -/
def start (c : Dev nD) : sProp 𝕄 := iprop((∃ K, records m K ∗ linear c) ∗ credits c ∗ levAts L lv)

/-- Before the one grid point, -/
def Φ₀ (c : Dev nD) : sProp 𝕄 := iprop(start m c ∗ ∃ f : S8x16x128.Idx → Elt F .f32, (((c : Thread nD τ).loc cc0_scratch0) ↦{fullShare} f))
/-- and after it: the landing buffer, and all counters of the exchange, barrier included, at zero. -/
def Φ₁ (c : Dev nD) : sProp 𝕄 :=
  iprop((((c : Thread nD τ).loc cc0_scratch0) ↦{fullShare} (acc m)) ∗ bigSep Finset.univ fun k : Ck => semVal (kcell (c, k)) 0)

/-- The region of device `c`: what its windows hold before and after, what it keeps between, and what it owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => gIn m c
    | ⟨2, _⟩ => outAt m c
  Φ t := match t with
    | ⟨0, _⟩ => Φ₀ m c
    | ⟨_ + 1, _⟩ => Φ₁ m c
  q _ := fullShare
  owed t := match t with
    | ⟨0, _⟩ => oweS c steps
    | ⟨_ + 1, _⟩ => 0

omit [FloatOps F] in
/-- To own a whole buffer with contents `X` is to hold it with some contents that are `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The input's window is the whole array, and so is the scale's. -/
theorem fetched_x (c : Dev nD) (d) : (dats m ρ 0 c).before (0 : Fin 3) t0_0 d = xIn m c := by
  unfold Dat.before; rw [if_pos (fetch0_0 t0_0)]
  funext j
  have hm : (cfg0.win (0 : Fin 3)).moved (cfg0.grid.coords t0_0) j = true :=
    ((cfg0.win (0 : Fin 3)).moved_iff _ j).mpr fun a => (j a).isLt
  unfold Dat.fetched Window.fill
  rw [dif_pos hm]
  exact congrArg (xIn m c) (funext fun a => Fin.ext (win0_0.rect_emb_val_of_index_zero t0_0 a rfl j))
/-- What the scale's window holds before the body is the scale. -/
theorem fetched_g (c : Dev nD) (d) : (dats m ρ 0 c).before (1 : Fin 3) t0_0 d = gIn m c := by
  unfold Dat.before; rw [if_pos (fetch0_1 t0_0)]
  funext j
  have hm : (cfg0.win (1 : Fin 3)).moved (cfg0.grid.coords t0_0) j = true :=
    ((cfg0.win (1 : Fin 3)).moved_iff _ j).mpr fun a => (j a).isLt
  unfold Dat.fetched Window.fill
  rw [dif_pos hm]
  exact congrArg (gIn m c) (funext fun a => Fin.ext (win0_1.rect_emb_val_of_index_zero t0_0 a rfl j))

/-- A program followed by another runs if the first runs to where the second does. -/
theorem run_bind {c : Dev nD} {α β : Type} (p : Prog (TpuEff nD τ sig (Elt F) Λ₀ .tc) α) (k : α → Prog (TpuEff nD τ sig (Elt F) Λ₀ .tc) β) (Q : β → sProp 𝕄) :
    run c p (fun a => run c (k a) Q) ⊢ run c (p >>= k) Q := by
  unfold run
  exact Entails.of_eq (wp_bind _ _ _ p k Q).symm

/-! ## The run -/

set_option maxHeartbeats 1000000 in
/-- The program of a device, part after part. -/
theorem run_all (c : Dev nD) (f : S8x16x128.Idx → Elt F .f32) (g : S2048x1024.Idx → Elt F .bf16) {Q : PUnit → sProp 𝕄} :
    iprop(records m K ∗ levAts L lv ∗ linear c ∗ credits c ∗ owesE c (oweS c steps) ∗ (((c : Thread nD τ).loc cc0_scratch0) ↦{fullShare} f) ∗ xPts m c ∗ gPts m c ∗ oPts c g)
      ⊢ iprop(((owesE c 0 ∗ Φ₁ m c ∗ xPts m c ∗ gPts m c ∗ oPts c (outAt m c)) -∗ Q ⟨⟩)
      -∗ run c (cc0_body (F := F) xM (Memref.isWhole_whole _) gM (Memref.isWhole_whole _) oM (Memref.isWhole_whole _) aM (Memref.isWhole_whole _) cc0_scratch1 cc0_scratch2) Q) := by
  unfold linear credits
  rw [all_cells c (fun k : Ck => (atPos ER (kcell (c, k)) 0 ∅ 0 : sProp 𝕄))]
  iintro ⟨#HR, #Hlev, ⟨⟨HaB, ⟨HaS0, HaS1, HaS⟩, HaR0, HaR1, HaRl, HaRh⟩, HtB, HtS, HtR⟩, ⟨HcB, HcL, HcH⟩, HO, Hbuf, Hx, Hg, Ho⟩ Hk
  rw [cc0_body_eq_skeleton]; unfold cc0_body_skel
  iapply run_bind
  rw [k0_part19_eq_skeleton]; unfold k0_part19_skel
  ihave H := (sig_begin c f) $$ [HO HtB Hbuf]
  · isplitl [HO]; · iexact HO
    isplitl [HtB]; · iexact HtB
    iexact Hbuf
  icases H with ⟨H, H0, H1⟩
  iapply run_bind
  iapply (cur (run_part1 m K c)) $$ HR H
  iintro H %v2 %v24 %y
  dsimp only
  iapply run_bind
  iapply (run_part2 m K c f v2 v24 y) $$ [H HcB HaB Hx Hg H0]
  · isplitr; · iexact HR
    isplitr; · iexact Hlev
    isplitl [H]; · iexact H
    isplitl [HcB]; · iexact HcB
    isplitl [HaB]; · iexact HaB
    isplitl [Hx]; · iexact Hx
    isplitl [Hg]; · iexact Hg
    iexact H0
  iintro ⟨HO, Hp, HzB, Hx, Hg, H0⟩
  dsimp only
  ihave H := (send_begin m c) $$ [HO Hp HtS HtR H0]
  · isplitl [HO]; · iexact HO
    isplitl [Hp]; · iexact Hp
    isplitl [HtS]; · iexact HtS
    isplitl [HtR]; · iexact HtR
    iexact H0
  icases H with ⟨H, H0⟩
  iapply run_bind
  iapply (cur (run_part3 m K c v2)) $$ HR H; iintro H %x3
  iapply run_bind
  iapply (cur (run_part4 m K c v2 x3)) $$ HR H; iintro H
  iapply run_bind
  iapply (run_part5 m K c f v2) $$ [H Hx H1]
  · isplitr; · iexact HR
    isplitl [H]; · iexact H
    isplitl [Hx]; · iexact Hx
    iexact H1
  iintro ⟨H, Hx, H1⟩
  ihave H := (send_next m c _ _) $$ [H H1]
  · isplitl [H]; · iexact H
    iexact H1
  icases H with ⟨H, H1⟩
  iapply run_bind
  iapply (cur (run_part6 m K c v2)) $$ HR H; iintro H %x6
  iapply run_bind
  iapply (cur (run_part7 m K c v2 x6)) $$ HR H; iintro H
  ihave Hr := (Entails.of_eq (allOf_sep (fun d => atPos ER (recvCell c (0, bk c d)) 0 ∅ 0) (fun d => cred (tallyAt (recvCell c (0, bk c d)) () N)) steps (by decide)).symm) $$ [HaRl HcL]
  · isplitl [HaRl]; · iexact HaRl
    iexact HcL
  ihave Hr' := (Entails.of_eq (allOf_sep (fun d => atPos ER (recvCell c (1, bk c d)) 0 ∅ 0) (fun d => cred (tallyAt (recvCell c (1, bk c d)) () N)) steps (by decide)).symm) $$ [HaRh HcH]
  · isplitl [HaRh]; · iexact HaRh
    iexact HcH
  iapply run_bind
  iapply (run_part8 m K c v2) $$ [H Hr]
  · isplitr; · iexact HR
    isplitl [H]; · iexact H
    iexact Hr
  iintro %x8 ⟨Hcr, H⟩
  iapply run_bind
  iapply (cur (run_part9 m K c v2 x8)) $$ HR H; iintro H
  iapply run_bind
  iapply (cur (run_part10 m K c v2)) $$ HR H; iintro H %x10
  iapply run_bind
  iapply (run_part11 m K c v2 x10 _ _) $$ [H H0 Hx]
  · isplitr; · iexact HR
    isplitl [H]; · iexact H
    isplitl [H0]; · iexact H0
    iexact Hx
  iintro ⟨HO, Hg0, Hx⟩
  dsimp only
  ihave H := (recv_begin m c 1) $$ [HO Hr']
  · isplitl [HO]; · iexact HO
    iexact Hr'
  iapply run_bind
  iapply (run_part12 m K c g v2 _ _ _) $$ [H Hx Ho]
  · isplitr; · iexact HR
    isplitl [H]; · iexact H
    isplitl [Hx]; · iexact Hx
    iexact Ho
  iintro ⟨H, Hx, Ho⟩
  iapply run_bind
  iapply (cur (run_part13 m K c v2)) $$ HR H; iintro H
  iapply run_bind
  iapply (cur (run_part14 m K c v2)) $$ HR H; iintro H
  iapply run_bind
  iapply (run_part15 m K c _ v2 _ _) $$ [H H1 Hx Ho]
  · isplitr; · iexact HR
    isplitl [H]; · iexact H
    isplitl [H1]; · iexact H1
    isplitl [Hx]; · iexact Hx
    iexact Ho
  iintro ⟨HO, Hg1, Hx, Ho⟩
  dsimp only
  ihave H := (wait_begin m c) $$ [HO Hcr HaS]
  · isplitl [HO]; · iexact HO
    isplitl [Hcr]; · iexact Hcr
    iexact HaS
  iapply run_bind
  iapply (run_part16 m K c _ _ _ _) $$ [H Hx Ho]
  · isplitr; · iexact HR
    isplitl [H]; · iexact H
    isplitl [Hx]; · iexact Hx
    iexact Ho
  iintro ⟨H, Hx, Ho⟩
  iapply run_bind
  iapply (cur (run_part17 m K c)) $$ HR H; iintro H
  iapply run_bind
  iapply (cur (run_part18 m K c)) $$ HR H; iintro H
  simp only [Prog.lift, Prog.bind_op, Prog.bind_ret, Prog.pure_eq_ret]
  iapply (cur (step_wait m K c (1, 4) (by decide) _ _ (sendAt_eq (p := (1, 4)) rfl) credit_row)) $$ HR H; iintro H
  iapply (cur (step_wait m K c (1, 5) (by decide) _ _ (sendAt_eq (p := (1, 5)) rfl) credit_row)) $$ HR H; iintro H
  iapply (cur (step_wait m K c (1, 6) (by decide) _ _ (sendAt_eq (p := (1, 6)) rfl) credit_row)) $$ HR H; iintro H
  iapply run_ret
  iapply (cur (step_wait m K c (1, 7) (by decide) _ _ (sendAt_eq (p := (1, 7)) rfl) credit_row)) $$ HR H; iintro H
  ihave H := (wait_end m c) $$ H
  icases H with ⟨HO, Hr0, Hr1, HzS⟩
  ihave H := (finish m c) $$ [Hg0 Hg1 Hr0 Hr1]
  · isplitl [Hg0]; · iexact Hg0
    isplitl [Hg1]; · iexact Hg1
    isplitl [Hr0]; · iexact Hr0
    iexact Hr1
  icases H with ⟨Hbuf, HzL, HzH⟩
  imod (close_unused m K c (.inr (.inl (0, 0))) (duties_send_zero m c 0)) $$ [HaS0] with HzS0
  · isplitr; · iexact HR
    iexact HaS0
  imod (close_unused m K c (.inr (.inl (1, 0))) (duties_send_zero m c 1)) $$ [HaS1] with HzS1
  · isplitr; · iexact HR
    iexact HaS1
  imod (close_unused m K c (.inr (.inr (0, c))) (duties_recv_self m c 0)) $$ [HaR0] with HzR0
  · isplitr; · iexact HR
    iexact HaR0
  imod (close_unused m K c (.inr (.inr (1, c))) (duties_recv_self m c 1)) $$ [HaR1] with HzR1
  · isplitr; · iexact HR
    iexact HaR1
  iapply run_ret
  iapply Hk
  isplitl [HO]; · iexact HO
  isplitl [Hbuf HzB HzS HzL HzH HzS0 HzS1 HzR0 HzR1]
  · unfold Φ₁
    rw [all_cells c (fun k : Ck => (semVal (kcell (c, k)) 0 : sProp 𝕄))]
    isplitl [Hbuf]; · iexact Hbuf
    isplitl [HzB]; · iexact HzB
    isplitl [HzS HzS0 HzS1]
    · isplitl [HzS0]; · iexact HzS0
      isplitl [HzS1]; · iexact HzS1
      iexact HzS
    isplitl [HzR0]; · iexact HzR0
    isplitl [HzR1]; · iexact HzR1
    isplitl [HzL]; · iexact HzL
    iexact HzH
  isplitl [Hx]; · iexact Hx
  isplitl [Hg]; · iexact Hg
  rw [← writes_out m c g]
  iexact Ho

/-! ## The obligation -/

/-- Buffer `b` of device `c`, holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body of device `c` starts from: the exchange's start, its debts, the three buffers. -/
def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
/-- What it ends with: the exchange's end, no debts, the input, the scale and the result. -/
def bodyPost (c : Dev nD) : sProp 𝕄 :=
  iprop(Φ₁ m c ∗ (dats m ρ 0 c).owesAt () t0_0.succ
    ∗ stg c cc0_stg0_0 (xIn m c) ∗ stg c cc0_stg1_0 (gIn m c) ∗ stg c cc0_stg2_0 (outAt m c))

/-- The body of device `c` runs from the first to the second without a fault. -/
theorem sound_body (c : Dev nD) :
    bodyPre m ρ c ⊢ run c (cc0_body (F := F) xM (Memref.isWhole_whole _) gM (Memref.isWhole_whole _) oM (Memref.isWhole_whole _) aM (Memref.isWhole_whole _) cc0_scratch1 cc0_scratch2)
      (fun _ => bodyPost m ρ c) := by
  unfold bodyPre Φ₀ start
  iintro ⟨⟨⟨⟨%K, #HR, Hl⟩, Hc, #Hlev⟩, ⟨%f, Hbuf⟩⟩, Ho, ⟨%d0, %g0, %hg0, Hx⟩, ⟨%d1, %g1, %hg1, Hg⟩, ⟨%d2, %g2, %hg2, Hout⟩⟩
  rw [fetched_x] at hg0
  rw [fetched_g] at hg1
  subst hg0 hg1
  unfold Dat.owesAt Pipeline.owesWithin
  icases Ho with ⟨%W, %hW, HO⟩
  rw [show (dats m ρ 0 c).owed t0_0.castSucc = oweS c steps from rfl]
  iapply (run_all m K c f g2) $$ [Hl Hc HO Hbuf Hx Hg Hout]
  · isplitr; · iexact HR
    isplitr; · iexact Hlev
    isplitl [Hl]; · iexact Hl
    isplitl [Hc]; · iexact Hc
    isplitl [HO]
    · unfold owesE
      iexists W; iexact HO
    isplitl [Hbuf]; · iexact Hbuf
    isplitl [Hx]; · unfold xPts; iexact Hx
    isplitl [Hg]; · unfold gPts; iexact Hg
    unfold oPts; iexact Hout
  iintro ⟨HO, HΦ, Hx, Hg, Hout⟩
  unfold bodyPost Dat.owesAt Pipeline.owesWithin owesE xPts gPts oPts
  icases HO with ⟨%W', HO⟩
  rw [show (dats m ρ 0 c).owed t0_0.succ = 0 from rfl]
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  iexists _; isplitr; · (ipureintro; rfl)
  iexact Hout

set_option maxRecDepth 4000 in
/-- The obligation of the one grid point. -/
theorem body_obligation (c : Dev nD) : BodyObligation (dats (F := F) m ρ 0 c) (defs₀ (F := F)) 𝒱₀ () Set.univ := fun t => by
  rw [show t = t0_0 from fin_N0 t]
  rw [show (bigSep Finset.univ : (Fin cfg0.W → sProp 𝕄) → sProp 𝕄) = fun Φ => iprop(Φ (0 : Fin 3) ∗ Φ (1 : Fin 3) ∗ Φ (2 : Fin 3)) from funext fun Φ => bigSep_W0 Φ]
  simp only [owns_whole_eq]
  exact sound_body m ρ c

end Cert.Exch
-- ==== Proof.Launch.lean ====
/-
# The launch

Every semaphore of the exchange, the barrier's included, is given to the protocol at one global step; its tokens go to the
devices that pay them, and each device gets the credit that the others' debts back. So the compiled mesh runs, and every
device's arrays end as the body leaves them.
-/
module

public import proofs.«01_k».proof.Proof.Body
public import Idealize.ShloMosaic.Lib.Pipeline.CollectiveSegs

@[expose] public section

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The kernel's own semaphores are no window's, and each is listed once. -/
theorem ownSemFacts : Pipeline.OwnSemFacts cfg0.spec osem := by decide

/-- Every window is held in full. -/
theorem share_eq (c : Dev nD) (w : Fin cfg0.W) : (dats m ρ 0 c).share w = fullShare := by
  unfold Dat.share; split <;> rfl

/-! ## The tokens -/

/-- All cells of the exchange. -/
def exchCells : Finset (GSem nD τ sig) := Finset.univ.map ⟨kcell, kcell_injective⟩

/-- A token for every cell and every device that might pay it; those of no duty are thrown away. -/
abbrev tokOf (x : (Dev nD × Ck) × Dev nD) : GSem nD τ sig × ℕ × Dev nD := (kcell x.1, 0, x.2)
/-- Different pairs have different tokens. -/
theorem tokOf_injective : Function.Injective tokOf := fun x y h =>
  Prod.ext (kcell_injective (congrArg (fun z : GSem nD τ sig × ℕ × Dev nD => z.1) h)) (congrArg (fun z : GSem nD τ sig × ℕ × Dev nD => z.2.2) h)
/-- All tokens of the exchange. -/
def exchToks : Finset (GSem nD τ sig × ℕ × Dev nD) := Finset.univ.map ⟨tokOf, tokOf_injective⟩

/-- The ghost state at launch. -/
def u₀ : UU :=
  (initOf (Pipeline.cells cfgs cellOf_inj) (Pipeline.launchToks cfgs cellOf_inj), initOf exchCells exchToks)

/-- The token of device `p` for cell `k` of device `c`. -/
abbrev tok (c : Dev nD) (k : Ck) (p : Dev nD) : sProp 𝕄 := dutyTok ER (kcell (c, k)) 0 p
/-- The tokens of device `c`'s own cells. -/
def toks (c : Dev nD) : sProp 𝕄 := bigSep Finset.univ fun k : Ck => bigSep Finset.univ fun p : Dev nD => tok c k p
/-- The tokens of what device `c` pays. -/
def payToks (c : Dev nD) : sProp 𝕄 :=
  iprop(allOf (fun d => dutyTok ER (barCell (nx c d)) 0 c) steps
    ∗ allOf (fun p => dutyTok ER (sendCell c p) 0 0) slots
    ∗ allOf (fun p => dutyTok ER (recvCell (nx c p.2) (p.1, c)) 0 0) slots)

omit [FloatOps F] in
/-- The barriers' tokens, dealt to the devices that signal, -/
theorem toks_bar : (bigSep Finset.univ fun c : Dev nD => bigSep Finset.univ fun p : Dev nD => (tok c (.inl ()) p : sProp 𝕄))
    ⊢ bigSep Finset.univ fun c : Dev nD => allOf (fun d => dutyTok ER (barCell (nx c d)) 0 c) steps := by
  rw [bigSep_univ_comm]
  refine bigSep_mono fun p _ => ?_
  rw [all_nx p (fun c => (tok c (.inl ()) p : sProp 𝕄))]
  show iprop(tok p (.inl ()) p ∗ allOf (fun d => tok (nx p d) (.inl ()) p) steps) ⊢ _
  iintro ⟨-, H⟩; iexact H

omit [FloatOps F] in
/-- those of the send cells, to the devices that start the transfers, -/
theorem toks_send : (bigSep Finset.univ fun c : Dev nD => bigSep Finset.univ fun x : Fin 2 × Fin 8 => bigSep Finset.univ fun p : Dev nD => (tok c (.inr (.inl x)) p : sProp 𝕄))
    ⊢ bigSep Finset.univ fun c : Dev nD => allOf (fun p => dutyTok ER (sendCell c p) 0 0) slots := by
  refine bigSep_mono fun c _ => ?_
  refine (bigSep_mono fun x _ => show _ ⊢ (tok c (.inr (.inl x)) 0 : sProp 𝕄) from bigSep_elim (Finset.mem_univ 0)).trans ?_
  rw [all_pairs (fun x => (tok c (.inr (.inl x)) 0 : sProp 𝕄))]
  show iprop(tok c (.inr (.inl (0, 0))) 0 ∗ tok c (.inr (.inl (1, 0))) 0 ∗ allOf (fun x => tok c (.inr (.inl x)) 0) slots) ⊢ _
  iintro ⟨-, -, H⟩; iexact H

omit [FloatOps F] in
/-- and those of the receive cells, to the senders. -/
theorem toks_recv : (bigSep Finset.univ fun c : Dev nD => bigSep Finset.univ fun x : Fin 2 × Fin 8 => bigSep Finset.univ fun p : Dev nD => (tok c (.inr (.inr x)) p : sProp 𝕄))
    ⊢ bigSep Finset.univ fun c : Dev nD => allOf (fun p => dutyTok ER (recvCell (nx c p.2) (p.1, c)) 0 0) slots := by
  refine (bigSep_mono fun c _ => bigSep_mono fun x _ => show _ ⊢ (tok c (.inr (.inr x)) 0 : sProp 𝕄) from bigSep_elim (Finset.mem_univ 0)).trans ?_
  rw [bigSep_univ_comm, bigSep_univ_prod, bigSep_univ_comm]
  refine bigSep_mono fun s _ => ?_
  rw [bigSep_univ_eq_bigSepL [(0 : Fin 2), (1 : Fin 2)] (by decide) (by decide)]
  show iprop((bigSep Finset.univ fun c : Dev nD => tok c (.inr (.inr (0, s))) 0) ∗ (bigSep Finset.univ fun c : Dev nD => tok c (.inr (.inr (1, s))) 0)) ⊢ _
  rw [all_nx s (fun c => (tok c (.inr (.inr (0, s))) 0 : sProp 𝕄)), all_nx s (fun c => (tok c (.inr (.inr (1, s))) 0 : sProp 𝕄)),
    allOf_slots (fun p => dutyTok ER (recvCell (nx s p.2) (p.1, s)) 0 0)]
  iintro ⟨⟨-, H0⟩, -, H1⟩
  isplitl [H0]; · iexact H0
  iexact H1

omit [FloatOps F] in
/-- The tokens go to those who pay. -/
theorem toks_around : (bigSep Finset.univ fun c : Dev nD => (toks c : sProp 𝕄)) ⊢ bigSep Finset.univ fun c : Dev nD => payToks c := by
  have hs (c : Dev nD) : (toks c : sProp 𝕄) = iprop((bigSep Finset.univ fun p : Dev nD => tok c (.inl ()) p)
      ∗ (bigSep Finset.univ fun x : Fin 2 × Fin 8 => bigSep Finset.univ fun p : Dev nD => tok c (.inr (.inl x)) p)
      ∗ (bigSep Finset.univ fun x : Fin 2 × Fin 8 => bigSep Finset.univ fun p : Dev nD => tok c (.inr (.inr x)) p)) := by
    unfold toks
    rw [bigSep_univ_sum, bigSep_univ_sum (fun b => bigSep Finset.univ fun p : Dev nD => tok c (.inr b) p)]
    rw [show (bigSep Finset.univ fun a : Unit => bigSep Finset.univ fun p : Dev nD => tok c (.inl a) p) = (bigSep Finset.univ fun p : Dev nD => tok c (.inl ()) p) from bigSep_singleton]
    rfl
  rw [bigSep_congr (fun c _ => hs c), bigSep_sep', bigSep_sep']
  unfold payToks
  rw [bigSep_sep', bigSep_sep']
  exact BI.sep_mono toks_bar (BI.sep_mono toks_send toks_recv)

/-! ## The global step -/

/-- What the launch element deals device `c`. -/
def G (c : Dev nD) : sProp 𝕄 :=
  iprop((bigSep Finset.univ fun k : Ck => roundState ER (sched m) (kcell (c, k)) 0)
    ∗ (bigSep Finset.univ fun k : Ck => atPos ER (kcell (c, k)) 0 ∅ 0) ∗ (bigSep Finset.univ fun k : Ck => reached ER (kcell (c, k)) 0) ∗ toks c)

/-- What the global step makes of it. -/
def G' (c : Dev nD) : sProp 𝕄 := iprop(∃ K, records m K ∗ linear c)

/-- The launch's ghost state gives every device its cells' states, positions and tokens. -/
theorem fund_exch : BI.own (ER (initOf exchCells exchToks)) ⊢ (|==> bigSep Finset.univ (G m) : sProp 𝕄) := by
  have hX (Φ : GSem nD τ sig → sProp 𝕄) : bigSep exchCells Φ = bigSep Finset.univ fun c : Dev nD => bigSep Finset.univ fun k : Ck => Φ (kcell (c, k)) := by
    unfold exchCells; rw [bigSep_map, bigSep_univ_prod]; rfl
  have hT : bigSep exchToks (fun x => (dutyTok ER x.1 x.2.1 x.2.2 : sProp 𝕄)) = bigSep Finset.univ fun c : Dev nD => toks c := by
    unfold exchToks; rw [bigSep_map, bigSep_univ_prod, bigSep_univ_prod]; rfl
  iintro HX
  imod (Rounds.fund ER (sched m) exchCells exchToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G
  rw [bigSep_sep', bigSep_sep', bigSep_sep']
  isplitl [Hst]; · iexact Hst
  isplitl [Hat]; · iexact Hat
  isplitl [Hr]; · iexact Hr
  iexact Htok

omit [FloatOps F] in
/-- The one counter that outlives the kernel is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's counters: the barrier's is the launch's, the others are the kernel's own. -/
theorem sems0_eq (c : Dev nD) :
    (bigSep Finset.univ fun k : Ck => semVal (kcell (c, k)) 0 : sProp 𝕄)
      = iprop(unscopedSems0 c ∗ Pipeline.ownSems0 (Ix := Unit) (Name := ℕ) (U := UU) (Lvl := ℕ) (Val := Elt F) (τ := τ) osem c) := by
  rw [unscopedSems0_eq, bigSep_univ_sum]
  rw [show (bigSep Finset.univ fun a : Unit => semVal (kcell (c, .inl a)) 0) = (semVal (barCell c) 0 : sProp 𝕄) from bigSep_singleton]
  rfl

/-- A device's cells put under their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : Ck => atPos ER (kcell (c, k)) 0 ∅ 0) ∗ (bigSep Finset.univ fun k : Ck => reached ER (kcell (c, k)) 0) ∗ toks c) := by
  unfold G
  iintro ⟨Hos, Hus, Hst, Hrest⟩
  ihave Hv := (Entails.of_eq (sems0_eq (F := F) c).symm) $$ [Hos Hus]
  · isplitl [Hus]; · iexact Hus
    iexact Hos
  imod (show iprop((bigSep Finset.univ fun k : Ck => semVal (kcell (c, k)) 0) ∗ bigSep Finset.univ fun k : Ck => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv]; · iexact Hv
    iexact Hst
  imodintro
  isplitl [Hinv]; · iexact Hinv
  iexact Hrest

omit [FloatOps F] in
/-- A fact that may be used again and again is there for every entry. -/
theorem deal {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-- From what all devices have of their own cells to what each needs of all: invariants and begun rounds shared, tokens dealt out. -/
theorem regroup :
    (bigSep Finset.univ fun c : Dev nD => iprop((bigSep Finset.univ fun k => iprop(∃ κ : ℕ, cellInv ER (sched m) κ (kcell (c, k))))
          ∗ (bigSep Finset.univ fun k : Ck => atPos ER (kcell (c, k)) 0 ∅ 0) ∗ (bigSep Finset.univ fun k : Ck => reached ER (kcell (c, k)) 0) ∗ toks c) : sProp 𝕄)
      ⊢ bigSep Finset.univ (G' m) := by
  rw [bigSep_sep', bigSep_sep', bigSep_sep', ← bigSep_univ_prod (fun ck : Dev nD × Ck => iprop(∃ κ : ℕ, cellInv ER (sched m) κ (kcell ck))),
    ← bigSep_univ_prod (fun ck : Dev nD × Ck => (reached ER (kcell ck) 0 : sProp 𝕄))]
  iintro ⟨HI, Hat, #HR, Htok⟩
  ihave HK := (BI.bigSep_exists_pi Finset.univ (fun (ck : Dev nD × Ck) (κ : ℕ) => (cellInv ER (sched m) κ (kcell ck) : sProp 𝕄))) $$ HI
  icases HK with ⟨%K, #HI⟩
  ihave Htk := (toks_around (F := F)) $$ Htok
  iapply (deal (R := records m K) (Φ := linear) fun c => show iprop(records m K ∗ linear c) ⊢ G' m c from by
    unfold G'
    iintro H
    iexists K
    iexact H)
  isplitr
  · unfold records
    isplitl; · iexact HI
    iexact HR
  rw [show (bigSep Finset.univ linear : sProp 𝕄) = _ from bigSep_sep' Finset.univ (fun c : Dev nD => bigSep Finset.univ fun k : Ck => (atPos ER (kcell (c, k)) 0 ∅ 0 : sProp 𝕄)) payToks]
  isplitl [Hat]; · iexact Hat
  iexact Htk

/-- Own and launch semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- How many entries of the list are transfers of `d` onto the cell `ck`; -/
def cntR (ck : Dev nD × Ck) (d : Dev nD) : List (Fin 2 × Fin 8) → ℕ
  | [] => 0
  | p :: l => cntR ck d l + if ck = (nx d p.2, .inr (.inr (p.1, d))) then 1 else 0
/-- how many are signals of `d` to it. -/
def cntS (ck : Dev nD × Ck) (d : Dev nD) : List (Fin 8) → ℕ
  | [] => 0
  | i :: l => cntS ck d l + if ck = (nx d i, .inl ()) then 1 else 0

/-- A debt at one cell, read at another. -/
theorem tally_cell (a b : Dev nD × Ck) (n : ℕ) : (tallyAt (kcell a) () n : CellTallies nD τ sig Unit) (kcell b) () = (if b = a then 1 else 0) * n := by
  rw [tallyAt_apply]
  by_cases h : b = a
  · subst h; rw [if_pos ⟨rfl, rfl⟩, if_pos rfl, Nat.one_mul]
  · rw [if_neg fun e => h (kcell_injective e.1), if_neg h, Nat.zero_mul]

/-- A device's debts of transfers to a cell: a half row's bytes for each of them. -/
theorem oweR_cell (ck : Dev nD × Ck) (d : Dev nD) : ∀ l, oweR d l (kcell ck) () = cntR ck d l * N
  | [] => by rw [show oweR d [] = 0 from rfl]; unfold cntR; rw [Nat.zero_mul]; rfl
  | p :: l => by
    unfold oweR cntR
    rw [Pi.add_apply, Finsupp.add_apply, oweR_cell ck d l, Nat.add_mul]
    exact congrArg _ (tally_cell (nx d p.2, .inr (.inr (p.1, d))) ck N)
/-- Its debts of signals and transfers together. -/
theorem oweS_cell (ck : Dev nD × Ck) (d : Dev nD) : ∀ l, oweS d l (kcell ck) () = cntS ck d l + cntR ck d slots * N
  | [] => by rw [show oweS d [] = oweR d slots from rfl, oweR_cell]; unfold cntS; rw [Nat.zero_add]
  | i :: l => by
    unfold oweS cntS
    rw [Pi.add_apply, Finsupp.add_apply, oweS_cell ck d l, Nat.add_right_comm]
    exact congrArg (cntS ck d l + · + cntR ck d slots * N) ((tally_cell (nx d i, .inl ()) ck 1).trans (Nat.mul_one _))

/-- What every device owes at launch. -/
abbrev O₀ : Dev nD → CellTallies nD τ sig Unit := fun c => oweS c steps

/-- What all devices owe a cell at launch. -/
theorem launch_cell (ck : Dev nD × Ck) :
    tallyOn (kcell ck) (launchCredit (Pipeline.owing O₀) 0 (kcell ck))
      = (tallyAt (kcell ck) () ((∑ d : Dev nD, cntS ck d steps) + (∑ d : Dev nD, cntR ck d slots) * N) : CellTallies nD τ sig Unit) := by
  unfold tallyAt; refine congrArg _ (Finsupp.ext fun u => ?_); cases u
  rw [Pipeline.launchCredit_owing, Finsupp.single_eq_same, Finset.sum_congr rfl fun d _ => oweS_cell ck d steps, Finset.sum_add_distrib, ← Finset.sum_mul]

/-- At a barrier seven signals arrive and no transfer, -/
theorem bar_counts (c : Dev nD) : (∑ d : Dev nD, cntS (c, .inl ()) d steps) = 7 ∧ (∑ d : Dev nD, cntR (c, .inl ()) d slots) = 0 := by
  revert c; decide +kernel
/-- at a used receive cell one transfer and no signal. -/
theorem recv_counts (c : Dev nD) (h : Fin 2) (i : Fin 8) (hi : i ≠ 0) :
    (∑ d : Dev nD, cntS (c, .inr (.inr (h, bk c i))) d steps) = 0 ∧ (∑ d : Dev nD, cntR (c, .inr (.inr (h, bk c i))) d slots) = 1 := by
  revert c h i; decide +kernel

/-- So a barrier's credit at launch is seven, -/
theorem launch_bar (c : Dev nD) :
    tallyOn (barCell c) (launchCredit (Pipeline.owing O₀) 0 (barCell c)) = (tallyAt (barCell c) () 7 : CellTallies nD τ sig Unit) := by
  have h := launch_cell (c, .inl ())
  rw [(bar_counts c).1, (bar_counts c).2, Nat.zero_mul] at h
  exact h
/-- and a used receive cell's is a half row's bytes. -/
theorem launch_recv (c : Dev nD) (h : Fin 2) (i : Fin 8) (hi : i ≠ 0) :
    tallyOn (recvCell c (h, bk c i)) (launchCredit (Pipeline.owing O₀) 0 (recvCell c (h, bk c i))) = (tallyAt (recvCell c (h, bk c i)) () N : CellTallies nD τ sig Unit) := by
  have e := launch_cell (c, .inr (.inr (h, bk c i)))
  rw [(recv_counts c h i hi).1, (recv_counts c h i hi).2, Nat.zero_add, Nat.one_mul] at e
  exact e

omit [FloatOps F] in
/-- What the launch gives a device for the debts of the others. -/
theorem creds (c : Dev nD) : (Pipeline.launchCred O₀ c : sProp 𝕄) ⊢ credits c := by
  have hl (h : Fin 2) : (allOf (fun i => cred (tallyOn (recvCell c (h, bk c i)) (launchCredit (Pipeline.owing O₀) 0 (recvCell c (h, bk c i))))) steps : sProp 𝕄)
      = allOf (fun i => cred (tallyAt (recvCell c (h, bk c i)) () N)) steps := by
    simp only [allOf]
    rw [launch_recv c h 1 (by decide), launch_recv c h 2 (by decide), launch_recv c h 3 (by decide), launch_recv c h 4 (by decide),
      launch_recv c h 5 (by decide), launch_recv c h 6 (by decide), launch_recv c h 7 (by decide)]
  unfold Pipeline.launchCred credits
  refine (bigSep_subset (Finset.subset_univ (Finset.univ.map ⟨csem, csem_injective⟩))).trans ?_
  rw [bigSep_map, all_cells c]
  refine (show _ ⊢ iprop(cred (tallyOn (barCell c) (launchCredit (Pipeline.owing O₀) 0 (barCell c)))
      ∗ allOf (fun i => cred (tallyOn (recvCell c (0, bk c i)) (launchCredit (Pipeline.owing O₀) 0 (recvCell c (0, bk c i))))) steps
      ∗ allOf (fun i => cred (tallyOn (recvCell c (1, bk c i)) (launchCredit (Pipeline.owing O₀) 0 (recvCell c (1, bk c i))))) steps) from by
    iintro ⟨HB, -, -, -, H0, H1⟩
    isplitl [HB]; · iexact HB
    isplitl [H0]; · iexact H0
    iexact H1).trans ?_
  rw [launch_bar, hl 0, hl 1]

/-! ## The side conditions of the launch -/

/-- A device's share of the launch is where the exchange starts. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- With the landing buffer it is what the body starts from; -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

/-- what the body ends with gives back the counters, at zero, and the buffer. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq]
  unfold Φ₁
  rw [sems0_eq]
  iintro ⟨Hr, HzB, Hz⟩
  isplitl [HzB]; · iexact HzB
  isplitl [Hz]; · iexact Hz
  iexists (acc m); iexact Hr

/-- A device may wait for its windows' fetches and flushes before the exchange and after it. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The contents of window `w`'s array on device `c` in the end. -/
def finalA (c : Dev nD) (w : Fin cfg0.W) : Buf (Elt F) ((cfg0.win w).arr.view.loc (c : Thread nD τ)) := (dats m ρ 0 c).arrAt w cfg0.N

/-- In the end every window's array, on every device, is as `finalA` says. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh, for any float values, from any memory with zero counters: every weakly fair execution of the
    eight devices' programs terminates, with every device's arrays as `finalA` says and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_exch m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input and the scale end as they began, -/
theorem finalA_x (c : Dev nD) : finalA m ρ c (0 : Fin 3) = (s₀ m ρ).mem (win0_0.arr.view.loc (c : Thread nD τ)) :=
  (dats (F := F) m ρ 0 c).arrAt_in (0 : Fin 3) rfl _
/-- and so does the scale, -/
theorem finalA_g (c : Dev nD) : finalA m ρ c (1 : Fin 3) = (s₀ m ρ).mem (win0_1.arr.view.loc (c : Thread nD τ)) :=
  (dats (F := F) m ρ 0 c).arrAt_in (1 : Fin 3) rfl _
/-- and the result array holds the result, whole. -/
theorem finalA_o (c : Dev nD) : finalA m ρ c (2 : Fin 3) = outAt m c :=
  (dats (F := F) m ρ 0 c).arrAt_eq_of_after_last (2 : Fin 3) t0_0 (by decide +kernel) (outAt m c) (fun _ => rfl)

end Cert.Exch
-- ==== Proof.Frames.lean ====
/-
# The frames

What the run of the eight devices says when the values are dropped. The kernel as printed and its idealization are one text, so
that one run serves both.
-/
module

public import proofs.«01_k».proof.Proof.Launch
public import proofs.«01_k».proof.Defs
public import proofs.«01_k».proof.Proof.Gen.Kernel
public import proofs.«01_k».proof.Proof.Gen.ReferenceIdeal.Run

@[expose] public section

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The idealized kernel terminates without fault, its arguments unchanged, every semaphore counter at zero. -/
theorem frame_kernelIdeal : Cert.quiescent_KernelIdeal := fun m ρ _ =>
  (θ_run Cert.KernelIdeal.defs _ _).mono
    (fun _ h => ⟨fun c => ⟨(h.1 c (0 : Fin 3)).trans (finalA_x m ρ c), (h.1 c (1 : Fin 3)).trans (finalA_g m ρ c)⟩, h.2⟩)
    (run_main (F := Ideal) m ρ)

/-- The two kernels call one body. -/
theorem body_table : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
/-- The two programs' tables are the same. -/
theorem whole_table : Cert.Kernel.defs (F := F) = Cert.KernelIdeal.defs (F := F) :=
  congrArg (Pipeline.defs (Cert.KernelIdeal.pcfgs (F := F))) body_table

/-- So does the kernel over the machine's floats. -/
theorem frame_kernel : Cert.quiescent_Kernel := fun m ρ _ => by
  rw [whole_table]
  exact (θ_run Cert.KernelIdeal.defs _ _).mono
    (fun _ h => ⟨fun c => ⟨(h.1 c (0 : Fin 3)).trans (finalA_x m ρ c), (h.1 c (1 : Fin 3)).trans (finalA_g m ρ c)⟩, h.2⟩)
    (run_main (F := Bits) m ρ)

/-- The reference's one device terminates without fault, its arguments unchanged, every semaphore counter at zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Exch
-- ==== Proof.Payloads.lean ====
/-
# The kernel's vector computations, read at an index over the reals

Each vector expression of the kernel's body is read at one index, with the extended reals as the float values: the sums of
squares of a half of the rows, the identity matrix, the scale of a row, and the four blocks of the result.
-/
module

public import proofs.«01_k».proof.Proof.Out
public import Idealize.ShloMosaic.Lib.Pointwise

@[expose] public section

noncomputable section

namespace Cert.Exch

open Cert.KernelIdeal Cert.KernelIdeal.Gen
open Idealize.ShloMosaic

/-- The reciprocal of the number of columns, as the kernel's literal says it. -/
abbrev invN : EReal := Ideal.ofBits .f32 0x39000000#32
/-- The number added to a mean of squares before its root is taken. -/
abbrev eps : EReal := Ideal.ofBits .f32 0x3727C5AC#32

/-- What scales a row whose squares sum to `s`. -/
def scaleOf (s : EReal) : EReal := Ideal.rsqrt (s * invN + eps)

/-- Line `a`, lane `b` of a half row holds the sum of squares of row `128 a + b` of that half of the rows. -/
theorem pay3_at (v : Vec Ideal S1024x1024 .f32) (a : ℕ) (ha : a < 8) (b : Fin 128) :
    k0_pay3 (F := Ideal) v (at8 a ha b) = ∑ k : Fin 1024, v (ix2 ⟨a * 128 + b.val, by omega⟩ k) * v (ix2 ⟨a * 128 + b.val, by omega⟩ k) := by
  have e : at8 a ha b = ix3 0 ⟨a, ha⟩ b := by
    funext d
    match d with
    | ⟨0, _⟩ => rfl
    | ⟨1, _⟩ => rfl
    | ⟨2, _⟩ => rfl
  rw [e]
  pointwise [k0_pay3]

/-- The other half likewise. -/
theorem pay4_at (v : Vec Ideal S1024x1024 .f32) (a : ℕ) (ha : a < 8) (b : Fin 128) :
    k0_pay4 (F := Ideal) v (at8 a ha b) = ∑ k : Fin 1024, v (ix2 ⟨a * 128 + b.val, by omega⟩ k) * v (ix2 ⟨a * 128 + b.val, by omega⟩ k) :=
  pay3_at v a ha b

/-- The matrix the kernel transposes with is the identity. -/
theorem pay1_at (a b : Fin 128) : k0_pay1 (F := Ideal) (ix2 a b) = if a = b then (1 : EReal) else 0 := by
  pointwise [k0_pay1]
  show (((BitVec.setWidth 32 (BitVec.ofBool (BitVec.ofNat 32 a.val == BitVec.ofNat 32 b.val))).toInt : ℝ) : EReal) = _
  have ha := a.isLt
  have hb := b.isLt
  by_cases h : a = b
  · subst h
    simp
  · have hne : (BitVec.ofNat 32 a.val == BitVec.ofNat 32 b.val) = false := by
      rw [beq_eq_false_iff_ne]
      intro h'
      have h2 := congrArg BitVec.toNat h'
      rw [BitVec.toNat_ofNat, BitVec.toNat_ofNat, Nat.mod_eq_of_lt (by omega), Nat.mod_eq_of_lt (by omega)] at h2
      exact h (Fin.ext h2)
    rw [hne, if_neg h]
    simp

/-- The scales of a half of the rows: row `128 a + r` of the half is at `(r, a)`. -/
theorem pay5_at (v : Vec Ideal S8x8x128 .f32) (r : Fin 128) (a : Fin 8) :
    k0_pay5 (F := Ideal) k0_pay1 v (ix2 r a) = scaleOf (∑ d : Fin 8, v (ix3 d a r)) := by
  pointwise [k0_pay5]
  rw [Finset.sum_eq_single r]
  · rw [pay1_at, if_pos rfl, one_mul]; rfl
  · intro k _ hk
    rw [pay1_at, if_neg (Ne.symm hk), zero_mul]
  · intro h; exact absurd (Finset.mem_univ _) h

/-- The other half of the rows likewise. -/
theorem pay8_at (v : Vec Ideal S8x8x128 .f32) (r : Fin 128) (a : Fin 8) :
    k0_pay8 (F := Ideal) k0_pay1 v (ix2 r a) = scaleOf (∑ d : Fin 8, v (ix3 d a r)) := pay5_at v r a

/-- The scale, as a row. -/
theorem pay2_at (v : Vec Ideal S1024 .f32) (k : Fin 1024) : k0_pay2 (F := Ideal) v (ix2 0 k) = v (ix1 k) := by
  pointwise [k0_pay2]

/-- Four columns of scales put under one another: row `r` reads column `r / 128` of the four, at `r mod 128`. -/
theorem pick4 (S : Fin 128 → Fin 8 → EReal) (r : Fin 512) (b0 b1 b2 b3 : Fin 8) (k : ℕ) (h0 : b0.val = k) (h1 : b1.val = k + 1)
    (h2 : b2.val = k + 2) (h3 : b3.val = k + 3) (h8 : r.val / 128 + k < 8) :
    (if h : r.val < 128 then S ⟨r.val, h⟩ b0
      else if h : r.val - 128 < 128 then S ⟨r.val - 128, h⟩ b1
        else if h : r.val - 128 - 128 < 128 then S ⟨r.val - 128 - 128, h⟩ b2
          else S ⟨r.val - 128 - 128 - 128, by omega⟩ b3)
      = S ⟨r.val % 128, Nat.mod_lt _ (by decide)⟩ ⟨r.val / 128 + k, h8⟩ := by
  have hr := r.isLt
  have key : ∀ (x : Fin 128) (y : Fin 8), x.val = r.val % 128 → y.val = r.val / 128 + k →
      S x y = S ⟨r.val % 128, Nat.mod_lt _ (by decide)⟩ ⟨r.val / 128 + k, h8⟩ := by
    intro x y hx hy
    rw [show x = ⟨r.val % 128, Nat.mod_lt _ (by decide)⟩ from Fin.ext hx, show y = ⟨r.val / 128 + k, h8⟩ from Fin.ext hy]
  split
  · refine key _ _ ?_ ?_
    · show r.val = _; omega
    · omega
  · split
    · refine key _ _ ?_ ?_
      · show r.val - 128 = _; omega
      · omega
    · split
      · refine key _ _ ?_ ?_
        · show r.val - 128 - 128 = _; omega
        · omega
      · refine key _ _ ?_ ?_
        · show r.val - 128 - 128 - 128 = _; omega
        · omega

/-- The first 512 rows of a half: an entry is the input's, times the scale's, times its row's. -/
theorem pay6_at (g : FVec Ideal S1x1024 .f32) (v : Vec Ideal S8x8x128 .f32) (x : Vec Ideal S512x1024 .f32) (r : Fin 512) (k : Fin 1024) :
    k0_pay6 (F := Ideal) k0_pay1 g v x (ix2 r k)
      = x (ix2 r k) * g (ix2 0 k) * scaleOf (∑ d : Fin 8, v (ix3 d ⟨r.val / 128 + 0, by omega⟩ ⟨r.val % 128, Nat.mod_lt _ (by decide)⟩)) := by
  rw [← pay5_at]
  pointwise [k0_pay6]
  refine congrArg (x (ix2 r k) * g (ix2 0 k) * ·) ?_
  exact pick4 (fun a b => k0_pay5 (F := Ideal) k0_pay1 v (ix2 a b)) r 0 1 2 3 0 rfl rfl rfl rfl (by omega)

/-- The first 512 rows of the other half, likewise. -/
theorem pay9_at (g : FVec Ideal S1x1024 .f32) (v : Vec Ideal S8x8x128 .f32) (x : Vec Ideal S512x1024 .f32) (r : Fin 512) (k : Fin 1024) :
    k0_pay9 (F := Ideal) k0_pay1 g v x (ix2 r k)
      = x (ix2 r k) * g (ix2 0 k) * scaleOf (∑ d : Fin 8, v (ix3 d ⟨r.val / 128 + 0, by omega⟩ ⟨r.val % 128, Nat.mod_lt _ (by decide)⟩)) :=
  pay6_at g v x r k

/-- The last 512 rows of a half, likewise. -/
theorem pay7_at (g : FVec Ideal S1x1024 .f32) (v : Vec Ideal S8x8x128 .f32) (x : Vec Ideal S512x1024 .f32) (r : Fin 512) (k : Fin 1024) :
    k0_pay7 (F := Ideal) g (k0_pay5 k0_pay1 v) x (ix2 r k)
      = x (ix2 r k) * g (ix2 0 k) * scaleOf (∑ d : Fin 8, v (ix3 d ⟨r.val / 128 + 4, by omega⟩ ⟨r.val % 128, Nat.mod_lt _ (by decide)⟩)) := by
  rw [← pay5_at]
  pointwise [k0_pay7]
  refine congrArg (x (ix2 r k) * g (ix2 0 k) * ·) ?_
  exact pick4 (fun a b => k0_pay5 (F := Ideal) k0_pay1 v (ix2 a b)) r 4 5 6 7 4 rfl rfl rfl rfl (by omega)

/-- The last 512 rows of the other half, likewise. -/
theorem pay11_at (g : FVec Ideal S1x1024 .f32) (v : Vec Ideal S8x8x128 .f32) (x : Vec Ideal S512x1024 .f32) (r : Fin 512) (k : Fin 1024) :
    k0_pay11 (F := Ideal) g (k0_pay8 k0_pay1 v) (k0_pay10 k0_pay1 v) x (ix2 r k)
      = x (ix2 r k) * g (ix2 0 k) * scaleOf (∑ d : Fin 8, v (ix3 d ⟨r.val / 128 + 4, by omega⟩ ⟨r.val % 128, Nat.mod_lt _ (by decide)⟩)) :=
  pay7_at g v x r k

end Cert.Exch
-- ==== Proof.KernelValue.lean ====
/-
# The result of a device, read at an index over the reals

The entry of device `c`'s result at row `r`, column `k` is its input's entry there, times the scale's at `k`, times the
scale of the row, which is found from the squares of that row of all eight devices.
-/
module

public import proofs.«01_k».proof.Proof.Payloads

@[expose] public section

noncomputable section

namespace Cert.Exch

open Cert.KernelIdeal Cert.KernelIdeal.Gen
open Idealize.ShloMosaic
open Idealize.ShloMosaic.TcCoe

variable (m : (ℓ : Loc nD τ sig) → Buf (Elt Ideal) ℓ)

/-- The sum of the squares of row `r` of device `d`'s columns. -/
def rowSq (d : Dev nD) (r : Fin 2048) : EReal :=
  ∑ k : Fin 1024, (xIn (F := Ideal) m d (ix2 r k) : EReal) * (xIn (F := Ideal) m d (ix2 r k) : EReal)

/-- Rows `o` to `o + n - 1` of a device's input, read at an index. -/
theorem rows_at {n : ℕ} (o : ℕ) {off : Fin 2 → ℕ} (inb : ∀ a, off a + (⟨2, ![n, 1024]⟩ : Shape).size a ≤ S2048x1024.size a)
    (ho : off = ![o, 0]) (f : S2048x1024.Idx → Elt Ideal .f32) (r : Fin n) (k : Fin 1024) (h : o + r.val < 2048) :
    (xM).view.readAt (Elt Ideal) (Rect.unit (s := S2048x1024) off (⟨2, ![n, 1024]⟩ : Shape).size inb).toLoadRect f (ix2 r k)
      = f (ix2 ⟨o + r.val, h⟩ k) := by
  subst ho
  refine congrArg f (funext fun a => ?_)
  match a with
  | ⟨0, _⟩ => exact Fin.ext (by show o + 1 * r.val = o + r.val; omega)
  | ⟨1, _⟩ => exact Fin.ext (by show 0 + 1 * k.val = k.val; omega)

/-- Eight lines of every row of the landing buffer, read at an index. -/
theorem lines_at (o : ℕ) {off : Fin 3 → ℕ} (inb : ∀ a, off a + S8x8x128.size a ≤ S8x16x128.size a)
    (ho : off = ![0, o, 0]) (f : S8x16x128.Idx → Elt Ideal .f32) (d a : Fin 8) (b : Fin 128) (h : o + a.val < 16) :
    (aM).view.readAt (Elt Ideal) (Rect.unit (s := S8x16x128) off S8x8x128.size inb).toLoadRect f (ix3 d a b)
      = f (ix3 d ⟨o + a.val, h⟩ b) := by
  subst ho
  refine congrArg f (funext fun i => ?_)
  match i with
  | ⟨0, _⟩ => exact Fin.ext (by show 0 + 1 * d.val = d.val; omega)
  | ⟨1, _⟩ => exact Fin.ext (by show o + 1 * a.val = o + a.val; omega)
  | ⟨2, _⟩ => exact Fin.ext (by show 0 + 1 * b.val = b.val; omega)

/-- The partial sums of the first 1024 rows, -/
theorem aLo_at (d a : Fin 8) (b : Fin 128) (r : Fin 2048) (hr : r.val = a.val * 128 + b.val) :
    aLo (F := Ideal) m (ix3 d a b) = rowSq m d r := by
  refine (lines_at 0 _ rfl (acc m) d a b (by omega)).trans ?_
  have ha : 0 + a.val < 8 := by omega
  refine (dif_pos (c := 0 + a.val < 8) ha).trans ((pay3_at (xLo m d) (0 + a.val) ha b).trans ?_)
  unfold rowSq
  refine Finset.sum_congr rfl fun k _ => ?_
  have e : xLo (F := Ideal) m d (ix2 ⟨(0 + a.val) * 128 + b.val, by omega⟩ k) = xIn m d (ix2 r k) := by
    refine (rows_at 0 _ rfl (xIn m d) _ k (by show 0 + ((0 + a.val) * 128 + b.val) < 2048; omega)).trans ?_
    exact congrArg (fun r => xIn m d (ix2 r k)) (Fin.ext (by show 0 + ((0 + a.val) * 128 + b.val) = r.val; omega))
  rw [e]

/-- and of the others. -/
theorem aHi_at (d a : Fin 8) (b : Fin 128) (r : Fin 2048) (hr : r.val = 1024 + (a.val * 128 + b.val)) :
    aHi (F := Ideal) m (ix3 d a b) = rowSq m d r := by
  refine (lines_at 8 _ rfl (acc m) d a b (by omega)).trans ?_
  have ha : ¬ 8 + a.val < 8 := by omega
  refine (dif_neg (c := 8 + a.val < 8) ha).trans ((pay4_at (xHi m d) (8 + a.val - 8) (by omega) b).trans ?_)
  unfold rowSq
  refine Finset.sum_congr rfl fun k _ => ?_
  have e : xHi (F := Ideal) m d (ix2 ⟨(8 + a.val - 8) * 128 + b.val, by omega⟩ k) = xIn m d (ix2 r k) := by
    refine (rows_at 1024 _ rfl (xIn m d) _ k (by show 1024 + ((8 + a.val - 8) * 128 + b.val) < 2048; omega)).trans ?_
    exact congrArg (fun r => xIn m d (ix2 r k)) (Fin.ext (by show 1024 + ((8 + a.val - 8) * 128 + b.val) = r.val; omega))
  rw [e]

/-- The scale is read whole. -/
theorem gRow_at (c : Dev nD) (k : Fin 1024) : gRow (F := Ideal) m c (ix2 0 k) = gIn m c (ix1 k) := by
  refine (pay2_at _ k).trans (congrArg (gIn m c) (funext fun a => ?_))
  match a with
  | ⟨0, _⟩ => exact Fin.ext (by show 0 + 1 * k.val = k.val; omega)

/-- The entry of a device's result. -/
def entry (c : Dev nD) (r : Fin 2048) (k : Fin 1024) : EReal :=
  (xIn (F := Ideal) m c (ix2 r k) : EReal) * (gIn (F := Ideal) m c (ix1 k) : EReal) * scaleOf (∑ d : Fin 8, rowSq m d r)

/-- Where row `r` lies in its block. -/
theorem inQ_eq (r : Fin 2048) (k : Fin 1024) : inQ (ix2 r k) = ix2 ⟨r.val % 512, Nat.mod_lt _ (by decide)⟩ k := by
  funext a
  match a with
  | ⟨0, _⟩ => rfl
  | ⟨1, _⟩ => rfl

/-- Three equal factors make an equal entry. -/
theorem entry_of (c : Dev nD) (r : Fin 2048) (k : Fin 1024) {x g : EReal} {s : Fin 8 → EReal} (hx : x = xIn (F := Ideal) m c (ix2 r k))
    (hg : g = gIn (F := Ideal) m c (ix1 k)) (hs : ∀ d, s d = rowSq m d r) : x * g * scaleOf (∑ d : Fin 8, s d) = entry m c r k := by
  unfold entry
  rw [hx, hg, Finset.sum_congr rfl fun d _ => hs d]

/-- Every entry of a device's result is the entry named above. -/
theorem outAt_at (c : Dev nD) (r : Fin 2048) (k : Fin 1024) : outAt (F := Ideal) m c (ix2 r k) = entry m c r k := by
  have hr := r.isLt
  have hrow (o : ℕ) {off : Fin 2 → ℕ} (inb : ∀ a, off a + S512x1024.size a ≤ S2048x1024.size a) (ho : off = ![o, 0])
      (h : o + r.val % 512 = r.val) :
      (xM).view.readAt (Elt Ideal) (Rect.unit (s := S2048x1024) off S512x1024.size inb).toLoadRect (xIn m c)
        (ix2 ⟨r.val % 512, Nat.mod_lt _ (by decide)⟩ k) = xIn m c (ix2 r k) :=
    (rows_at o inb ho (xIn m c) ⟨r.val % 512, Nat.mod_lt _ (by decide)⟩ k (by show o + r.val % 512 < 2048; omega)).trans
      (congrArg (fun r => xIn m c (ix2 r k)) (Fin.ext h))
  unfold outAt
  rw [inQ_eq]
  show (if r.val / 512 = 3 then _ else if r.val / 512 = 2 then _ else if r.val / 512 = 1 then _ else _) = _
  split
  · next h =>
    refine (pay11_at _ _ _ _ k).trans (entry_of m c r k (hrow 1536 _ rfl (by omega)) (gRow_at m c k) fun d => ?_)
    exact aHi_at m d _ _ r (by show r.val = 1024 + ((r.val % 512 / 128 + 4) * 128 + r.val % 512 % 128); omega)
  · split
    · next h =>
      refine (pay9_at _ _ _ _ k).trans (entry_of m c r k (hrow 1024 _ rfl (by omega)) (gRow_at m c k) fun d => ?_)
      exact aHi_at m d _ _ r (by show r.val = 1024 + ((r.val % 512 / 128 + 0) * 128 + r.val % 512 % 128); omega)
    · split
      · next h =>
        refine (pay7_at _ _ _ _ k).trans (entry_of m c r k (hrow 512 _ rfl (by omega)) (gRow_at m c k) fun d => ?_)
        exact aLo_at m d _ _ r (by show r.val = (r.val % 512 / 128 + 4) * 128 + r.val % 512 % 128; omega)
      · next h3 h2 h1 =>
        refine (pay6_at _ _ _ _ k).trans (entry_of m c r k (hrow 0 _ rfl (by omega)) (gRow_at m c k) fun d => ?_)
        exact aLo_at m d _ _ r (by show r.val = (r.val % 512 / 128 + 0) * 128 + r.val % 512 % 128; omega)

end Cert.Exch
-- ==== Proof.RefValue.lean ====
/-
# The reference, read at an index over the reals

The reference's result at row `r`, column `k` is the scale's entry times the input's, over the root of the row's mean
square plus the small constant.
-/
module

public import proofs.«01_k».proof.Proof.Gen.ReferenceIdeal.Run
public import Idealize.ShloMosaic.Lib.Pointwise

@[expose] public section

noncomputable section

namespace Cert.Exch.Ref

open Cert.ReferenceIdeal Cert.ReferenceIdeal.Gen
open Idealize.ShloMosaic

/-- What the reference computes of an input `x` and a scale `g`. -/
def out (x : FVec Ideal S2048x8192 .f32) (g : FVec Ideal S8192 .f32) : FVec Ideal S2048x8192 .bf16 :=
  truncf .bf16 (Host.divf (mulf (broadcastInDim S2048x8192 ![0, 1] bcast_S1x8192_S2048x8192_0_1 (broadcastInDim S1x8192 ![1] bcast_S8192_S1x8192_1 g)) x)
    (broadcastInDim S2048x8192 ![0, 1] bcast_S2048x1_S2048x8192_0_1
      (Host.sqrt (addf
        (Host.divf (broadcastInDim S2048x1 ![0] bcast_S2048_S2048x1_0
            (Host.reduceAdd (mulf x x) (constant S_ .f32 0x00000000#32) reducesTo_S2048x8192_S2048_d1 h_S_))
          (broadcastInDim S2048x1 ![] bcast_S_S2048x1 (constant S_ .f32 0x46000000#32)))
        (broadcastInDim S2048x1 ![] bcast_S_S2048x1 (constant S_ .f32 0x3727C5AC#32)))))) bitsLt_bf16_f32

/-- Its entry at row `r`, column `k`. -/
theorem out_at (x : FVec Ideal S2048x8192 .f32) (g : FVec Ideal S8192 .f32) (r : Fin 2048) (k : Fin 8192) :
    out x g (ix2 r k) = Ideal.div ((g (ix1 k) : EReal) * (x (ix2 r k) : EReal))
      (Ideal.sqrt (Ideal.div (∑ j : Fin 8192, (x (ix2 r j) : EReal) * (x (ix2 r j) : EReal)) (Ideal.ofBits .f32 0x46000000#32)
        + Ideal.ofBits .f32 0x3727C5AC#32)) := by
  pointwise [out]

end Cert.Exch.Ref
-- ==== Proof.Equation.lean ====
/-
# The kernel's result is the reference's, over the reals

The squares of a row add up the same device by device or all at once; and over a row whose squares have a nonnegative sum,
extended reals throughout, to multiply by the reciprocal of the root is to divide by the root.
-/
module

public import proofs.«01_k».proof.Proof.KernelValue
public import proofs.«01_k».proof.Proof.RefValue

@[expose] public section

noncomputable section

namespace Cert.Exch

open Idealize.ShloMosaic
open Idealize.ShloMosaic.TcCoe

/-! ## The scale of a row -/

/-- The kernel's factor is one over 8192, exactly. -/
theorem invN_val : invN = ((1 / 8192 : ℝ) : EReal) := by
  simp [invN, Ideal.ofBits, Ideal.ieee]
  rw [← EReal.coe_mul]
  norm_num

/-- The reference's divisor is 8192. -/
theorem n_val : Ideal.ofBits .f32 0x46000000#32 = ((8192 : ℝ) : EReal) := by
  simp [Ideal.ofBits, Ideal.ieee]
  rw [← EReal.coe_mul]
  norm_num

/-- The small constant is a positive real. -/
theorem eps_val : ∃ e : ℝ, 0 < e ∧ eps = (e : EReal) := by
  refine ⟨_, ?_, by simp only [eps, Ideal.ofBits, Ideal.ieee]; simp; rfl⟩
  norm_num

/-- A square is not negative, infinite or not. -/
theorem sq_nonneg_ereal (x : EReal) : 0 ≤ x * x := by
  induction x with
  | bot => simp
  | top => simp
  | coe x => exact_mod_cast mul_self_nonneg x

/-- To multiply by the reciprocal of the root of a mean of squares is to divide by the root. -/
theorem scale_eq (x g s : EReal) (hs : 0 ≤ s) :
    x * g * scaleOf s = Ideal.div (g * x) (Ideal.sqrt (Ideal.div s (Ideal.ofBits .f32 0x46000000#32) + Ideal.ofBits .f32 0x3727C5AC#32)) := by
  obtain ⟨e, he, hE⟩ := eps_val
  have hE' : Ideal.ofBits .f32 0x3727C5AC#32 = (e : EReal) := hE
  unfold scaleOf
  rw [invN_val, n_val, hE, hE', Ideal.div_coe (by norm_num), mul_comm x g]
  generalize g * x = a
  induction s with
  | bot => exact absurd hs (by simp)
  | top =>
    rw [EReal.top_mul_coe_of_pos (by norm_num), EReal.top_add_coe]
    simp [Ideal.div]
  | coe r =>
    have hr : 0 ≤ r := by exact_mod_cast hs
    have ht : 0 < r * (1 / 8192) + e := by positivity
    rw [← EReal.coe_mul, ← EReal.coe_add, Ideal.rsqrt_coe, Ideal.sqrt_coe, if_neg (not_lt.2 ht.le), if_neg ht.ne', if_neg (not_lt.2 ht.le),
      Ideal.div_coe (Real.sqrt_pos.2 ht).ne', one_div (Real.sqrt _)]

/-! ## The arrays -/

section Arrays
open Cert.KernelIdeal

variable (m : (ℓ : Loc nD τ sig) → Buf (Elt Ideal) ℓ)
variable (X : FVec Ideal Cert.ReferenceIdeal.S2048x8192 .f32) (G : FVec Ideal Cert.ReferenceIdeal.S8192 .f32)

/-- Column `k` of device `c`'s block is column `1024 c + k` of the array. -/
theorem block_at (Y : (⟨2, ![2048, 8192]⟩ : Shape).Idx → EReal) (c : Fin 8) (r : Fin 2048) (k : Fin 1024) (h : c.val * 1024 + k.val < 8192) :
    Layout.block ⟨2, ![2048, 1024]⟩ ⟨2, ![2048, 8192]⟩ 1 8 c Y (by decide) (ix2 r k) = Y (ix2 r ⟨c.val * 1024 + k.val, h⟩) := by
  refine congrArg Y (funext fun a => ?_)
  match a with
  | ⟨0, _⟩ => rfl
  | ⟨1, _⟩ => rfl

/-- Entry `k` of device `c`'s block of the scale is entry `1024 c + k` of the scale. -/
theorem block1_at (Y : (⟨1, ![8192]⟩ : Shape).Idx → EReal) (c : Fin 8) (k : Fin 1024) (h : c.val * 1024 + k.val < 8192) :
    Layout.block ⟨1, ![1024]⟩ ⟨1, ![8192]⟩ 0 8 c Y (by decide) (ix1 k) = Y (ix1 ⟨c.val * 1024 + k.val, h⟩) := by
  refine congrArg Y (funext fun a => ?_)
  match a with
  | ⟨0, _⟩ => rfl

/-- Of the blocks of an input and of a scale, device `c`'s result is its block of the reference's. -/
theorem outAt_eq_block (hX : ∀ c : Dev nD, xIn (F := Ideal) m c = Layout.block ⟨2, ![2048, 1024]⟩ ⟨2, ![2048, 8192]⟩ 1 8 c X (by decide))
    (hG : ∀ c : Dev nD, gIn (F := Ideal) m c = Layout.block ⟨1, ![1024]⟩ ⟨1, ![8192]⟩ 0 8 c G (by decide)) (c : Dev nD) :
    outAt (F := Ideal) m c = Layout.block ⟨2, ![2048, 1024]⟩ ⟨2, ![2048, 8192]⟩ 1 8 c (Ref.out X G) (by decide) := by
  have lt (d : Fin 8) (k : Fin 1024) : d.val * 1024 + k.val < 8192 := by omega
  have hx (d : Fin 8) (r : Fin 2048) (k : Fin 1024) : xIn (F := Ideal) m d (ix2 r k) = X (ix2 r ⟨d.val * 1024 + k.val, lt d k⟩) := by
    rw [hX d]; exact block_at X d r k _
  have hg (d : Fin 8) (k : Fin 1024) : gIn (F := Ideal) m d (ix1 k) = G (ix1 ⟨d.val * 1024 + k.val, lt d k⟩) := by
    rw [hG d]; exact block1_at G d k _
  funext i
  obtain ⟨r, k, rfl⟩ : ∃ (r : Fin 2048) (k : Fin 1024), i = ix2 r k := ⟨i 0, i 1, funext fun a => by
    match a with
    | ⟨0, _⟩ => rfl
    | ⟨1, _⟩ => rfl⟩
  refine (outAt_at m c r k).trans (Eq.trans ?_ (block_at (Ref.out X G) c r k (lt c k)).symm)
  rw [Ref.out_at]
  have hsum : (∑ d : Fin 8, rowSq m d r) = ∑ j : Fin 8192, (X (ix2 r j) : EReal) * (X (ix2 r j) : EReal) := by
    rw [Fin.sum_univ_tiles (N := 8192) 8 1024 (by norm_num)]
    refine Finset.sum_congr rfl fun d _ => ?_
    unfold rowSq
    refine Finset.sum_congr rfl fun j _ => ?_
    rw [hx d r j]
  unfold entry
  rw [hsum, hx c r k, hg c k]
  exact scale_eq _ _ _ (Finset.sum_nonneg fun j _ => sq_nonneg_ereal _)

end Arrays

end Cert.Exch
-- ==== Proof.Algebraic.lean ====
/-
# The value claim

Run on the blocks of an input and of a scale, the eight devices leave the blocks of what the reference computes of them.
-/
module

public import proofs.«01_k».proof.Proof.Frames
public import proofs.«01_k».proof.Proof.Equation

@[expose] public section

noncomputable section

namespace Cert.Exch

open Cert.KernelIdeal
open Idealize.ShloMosaic
open Idealize.ShloMosaic.TcCoe
open Idealize.SL Idealize.SL.Sem

/-- The kernel over the reals computes the reference's result, each device its block of the columns. -/
theorem value : Cert.algebraic_KernelIdeal_ReferenceIdeal := by
  intro m ρ m' ρ' _ hin
  refine ⟨Ref.out (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run _ _ _).mono (fun r h c => ?_) (run_main (F := Ideal) m ρ)
    have h2 := (h.1 c (2 : Fin 3)).trans (finalA_o m ρ c)
    have h0 := (h.1 c (0 : Fin 3)).trans (finalA_x m ρ c)
    have h1 := (h.1 c (1 : Fin 3)).trans (finalA_g m ρ c)
    exact ⟨h2.trans (outAt_eq_block m _ _ (fun c => (hin c).1) (fun c => (hin c).2) c), h0, h1⟩
  · exact (θ_run _ _ _).mono (fun r h => ⟨(h 0).1, (h 0).2.1, (h 0).2.2⟩) (Cert.ReferenceIdeal.Value.run (F := Ideal) m' ρ')

end Cert.Exch
-- ==== Proof.lean ====
/-
# The certificate

The three programs' frames, the idealization (which rewrites nothing) and the value claim, put together. The modules under
`Proof/` prove them: `Launch` the run of the eight devices, `Frames` what it says without values, `Algebraic` what the
result is.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Exch.frame_kernel, Cert.Exch.frame_kernelIdeal,
    Cert.Exch.frame_reference, trivial, Cert.Exch.value⟩

end Cert.Proof

end
